-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_padding [hPre_no_padding : Cert.Pre_no_padding.Facts] (m : (ℓ : Loc Cert.KernelIdeal.nD Cert.KernelIdeal.τ Cert.KernelIdeal.sig) → Buf (Elt Ideal) ℓ) : Prop :=
  ∀ c : Dev Cert.KernelIdeal.nD,
    (Cert.Pre_no_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_padding [hPre_no_padding : Cert.Pre_no_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_padding [hKernelIdeal : Cert.KernelIdeal.Facts] [hPre_no_padding : Cert.Pre_no_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_padding [hReferenceIdeal : Cert.ReferenceIdeal.Facts] [hPre_no_padding : Cert.Pre_no_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "rs" .f32 0x3D3504F3#32 (((Real.sqrt 512)⁻¹ : ℝ) : EReal)

def algebraic_KernelIdeal_ReferenceIdeal_pre_no_padding [hKernelIdeal : Cert.KernelIdeal.Facts] [hReferenceIdeal : Cert.ReferenceIdeal.Facts] [hPre_no_padding : Cert.Pre_no_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_padding : Cert.Pre_no_padding.Facts),
    quiescent_Kernel (hKernel := hKernel)
    ∧ quiescent_KernelIdeal (hKernelIdeal := hKernelIdeal)
    ∧ quiescent_KernelIdeal_pre_no_padding (hKernelIdeal := hKernelIdeal) (hPre_no_padding := hPre_no_padding)
    ∧ quiescent_ReferenceIdeal (hReferenceIdeal := hReferenceIdeal)
    ∧ quiescent_ReferenceIdeal_pre_no_padding (hReferenceIdeal := hReferenceIdeal) (hPre_no_padding := hPre_no_padding)
    ∧ preserves_Kernel_KernelIdeal
    ∧ algebraic_KernelIdeal_ReferenceIdeal_pre_no_padding (hKernelIdeal := hKernelIdeal) (hReferenceIdeal := hReferenceIdeal) (hPre_no_padding := hPre_no_padding)
-- ==== Pre_no_padding.lean ====
abbrev S2x2048x1024 : Shape := ⟨3, ![2, 2048, 1024]⟩
abbrev S2x2048 : Shape := ⟨2, ![2, 2048]⟩
abbrev S512x1024 : Shape := ⟨2, ![512, 1024]⟩
abbrev S512 : Shape := ⟨1, ![512]⟩
abbrev S_ : Shape := ⟨0, ![]⟩

class Facts : Prop where
  reducesTo_S2x2048_S_d0_1 : S2x2048.ReducesTo [0, 1] S_
  h_S_ : 0 < S_.numel

variable [Facts]

def fn {F : FTy → Type} [FloatOps F] (main_arg0 : FVec F S2x2048x1024 .f32) (main_arg1 : IVec S2x2048 1) (main_arg2 : FVec F S512x1024 .f32) (main_arg3 : FVec F S512 .f32) (main_arg4 : FVec F S512x1024 .f32) (main_arg5 : FVec F S512 .f32) : IVec S_ 1 :=
  let main_c : IVec S_ 1 := constantI S_ 1 1#1
  let main_v0 : IVec S_ 1 := (fun x v => Host.reduce IntOp.andi x v reducesTo_S2x2048_S_d0_1 h_S_) main_arg1 main_c
  main_v0
-- ==== Kernel.lean ====
abbrev S2x2048x1024 : Shape := ⟨3, ![2, 2048, 1024]⟩
abbrev S2x2048 : Shape := ⟨2, ![2, 2048]⟩
abbrev S512x1024 : Shape := ⟨2, ![512, 1024]⟩
abbrev S512 : Shape := ⟨1, ![512]⟩
abbrev S2x2048x2048 : Shape := ⟨3, ![2, 2048, 2048]⟩
abbrev S2x64x256 : Shape := ⟨3, ![2, 64, 256]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1x8x256 : Shape := ⟨3, ![1, 8, 256]⟩
abbrev S2048x512 : Shape := ⟨2, ![2048, 512]⟩
abbrev S2048x1024 : Shape := ⟨2, ![2048, 1024]⟩
abbrev S1x512 : Shape := ⟨2, ![1, 512]⟩
abbrev S256x1024 : Shape := ⟨2, ![256, 1024]⟩
abbrev S256x512 : Shape := ⟨2, ![256, 512]⟩
abbrev S256x2048 : Shape := ⟨2, ![256, 2048]⟩
abbrev S256x256 : Shape := ⟨2, ![256, 256]⟩
abbrev S256 : Shape := ⟨1, ![256]⟩
abbrev S1x1x256 : Shape := ⟨3, ![1, 1, 256]⟩
abbrev S2x8x8x256 : Shape := ⟨4, ![2, 8, 8, 256]⟩
abbrev S2x8x256x8 : Shape := ⟨4, ![2, 8, 256, 8]⟩
abbrev S2x16384 : Shape := ⟨2, ![2, 16384]⟩
abbrev S2x128 : Shape := ⟨2, ![2, 128]⟩
abbrev S2x16384x256 : Shape := ⟨3, ![2, 16384, 256]⟩
abbrev S2x128x1 : Shape := ⟨3, ![2, 128, 1]⟩
abbrev S_ : Shape := ⟨0, ![]⟩
abbrev S1 : Shape := ⟨1, ![1]⟩
abbrev S1x1x1 : Shape := ⟨3, ![1, 1, 1]⟩
abbrev S2x128x256 : Shape := ⟨3, ![2, 128, 256]⟩
abbrev S2x32768 : Shape := ⟨2, ![2, 32768]⟩
abbrev S2x64 : Shape := ⟨2, ![2, 64]⟩
abbrev S2x64x1 : Shape := ⟨3, ![2, 64, 1]⟩
abbrev S2 : Shape := ⟨1, ![2]⟩
abbrev S2x1 : Shape := ⟨2, ![2, 1]⟩
abbrev S2x64x2 : Shape := ⟨3, ![2, 64, 2]⟩

abbrev nBuf : Space → Nat
  | .hbm => 169
  | .vmem => 13
  | .smem => 0
  | _ => 0

abbrev hbmTy0_0 (i : Nat) : BufTy := match i % 128 with
  | 0 => ⟨S2x2048x1024, .f32⟩
  | 1 => ⟨S2x2048, .i1⟩
  | 2 => ⟨S512x1024, .f32⟩
  | 3 => ⟨S512, .f32⟩
  | 4 => ⟨S512x1024, .f32⟩
  | 5 => ⟨S512, .f32⟩
  | 6 => ⟨S2x2048x2048, .f32⟩
  | 7 => ⟨S2x64x256, .f32⟩
  | 8 => ⟨S2x8x8x256, .f32⟩
  | 9 => ⟨S2x8x256x8, .f32⟩
  | 10 => ⟨S2x16384, .f32⟩
  | 11 => ⟨S2x128, .f32⟩
  | 12 => ⟨S2x128, .i32⟩
  | 13 => ⟨S2x128, .i32⟩
  | 14 => ⟨S2x16384x256, .f32⟩
  | 15 => ⟨S2x128x1, .i32⟩
  | 16 => ⟨S_, .i32⟩
  | 17 => ⟨S2x128x1, .i32⟩
  | 18 => ⟨S2x128x1, .i1⟩
  | 19 => ⟨S_, .i32⟩
  | 20 => ⟨S2x128x1, .i32⟩
  | 21 => ⟨S2x128x1, .i32⟩
  | 22 => ⟨S2x128x1, .i32⟩
  | 23 => ⟨S1, .i32⟩
  | 24 => ⟨S_, .i32⟩
  | 25 => ⟨S2x128x1, .i32⟩
  | 26 => ⟨S2x128x1, .i1⟩
  | 27 => ⟨S1x1x1, .i32⟩
  | 28 => ⟨S2x128x1, .i32⟩
  | 29 => ⟨S2x128x1, .i1⟩
  | 30 => ⟨S2x128x1, .i1⟩
  | 31 => ⟨S_, .i1⟩
  | 32 => ⟨S2x128, .i1⟩
  | 33 => ⟨S2x128x256, .f32⟩
  | 34 => ⟨S2x128x256, .i1⟩
  | 35 => ⟨S_, .f32⟩
  | 36 => ⟨S2x128x256, .f32⟩
  | 37 => ⟨S2x128x256, .f32⟩
  | 38 => ⟨S2x32768, .f32⟩
  | 39 => ⟨S2x64, .f32⟩
  | 40 => ⟨S2x64, .i32⟩
  | 41 => ⟨S_, .i32⟩
  | 42 => ⟨S_, .i32⟩
  | 43 => ⟨S2x64, .i32⟩
  | 44 => ⟨S2x64, .i32⟩
  | 45 => ⟨S2x64, .i32⟩
  | 46 => ⟨S_, .i32⟩
  | 47 => ⟨S2x64, .i32⟩
  | 48 => ⟨S2x64, .i1⟩
  | 49 => ⟨S2x64, .i32⟩
  | 50 => ⟨S2x64, .i32⟩
  | 51 => ⟨S_, .i32⟩
  | 52 => ⟨S2x64, .i32⟩
  | 53 => ⟨S2x64, .i1⟩
  | 54 => ⟨S2x64, .i1⟩
  | 55 => ⟨S_, .i32⟩
  | 56 => ⟨S2x64, .i32⟩
  | 57 => ⟨S2x64, .i32⟩
  | 58 => ⟨S2x64, .i32⟩
  | 59 => ⟨S_, .i32⟩
  | 60 => ⟨S2x64, .i32⟩
  | 61 => ⟨S2x64, .i1⟩
  | 62 => ⟨S_, .i32⟩
  | 63 => ⟨S2x64, .i32⟩
  | 64 => ⟨S2x64, .i32⟩
  | 65 => ⟨S2x64, .i32⟩
  | 66 => ⟨S2x64x1, .i32⟩
  | 67 => ⟨S1, .i32⟩
  | 68 => ⟨S_, .i32⟩
  | 69 => ⟨S2x64x1, .i32⟩
  | 70 => ⟨S2x64x1, .i1⟩
  | 71 => ⟨S1x1x1, .i32⟩
  | 72 => ⟨S2x64x1, .i32⟩
  | 73 => ⟨S2x64x1, .i1⟩
  | 74 => ⟨S2x64x1, .i1⟩
  | 75 => ⟨S_, .i1⟩
  | 76 => ⟨S2x64, .i1⟩
  | 77 => ⟨S2x64, .i32⟩
  | 78 => ⟨S_, .i32⟩
  | 79 => ⟨S2x64, .i32⟩
  | 80 => ⟨S2x64, .i32⟩
  | 81 => ⟨S_, .i32⟩
  | 82 => ⟨S2x64, .i32⟩
  | 83 => ⟨S2x64, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S2x64, .i32⟩
  | 91 => ⟨S2x64, .i32⟩
  | 92 => ⟨S_, .i32⟩
  | 93 => ⟨S2x64, .i32⟩
  | 94 => ⟨S2x64, .i1⟩
  | 95 => ⟨S_, .i32⟩
  | 96 => ⟨S2x64, .i32⟩
  | 97 => ⟨S2x64, .i1⟩
  | 98 => ⟨S_, .i32⟩
  | 99 => ⟨S_, .i1⟩
  | 100 => ⟨S2x64, .i1⟩
  | 101 => ⟨S2x64, .i1⟩
  | 102 => ⟨S2x64, .i1⟩
  | 103 => ⟨S2x64, .i32⟩
  | 104 => ⟨S2x64, .i32⟩
  | 105 => ⟨S2x64, .i32⟩
  | 106 => ⟨S2x64, .i32⟩
  | 107 => ⟨S_, .f32⟩
  | 108 => ⟨S2, .f32⟩
  | 109 => ⟨S_, .f32⟩
  | 110 => ⟨S2, .f32⟩
  | 111 => ⟨S2, .f32⟩
  | 112 => ⟨S2x1, .f32⟩
  | 113 => ⟨S2x64, .f32⟩
  | 114 => ⟨S2x64, .f32⟩
  | 115 => ⟨S2x64, .f32⟩
  | 116 => ⟨S_, .f32⟩
  | 117 => ⟨S2, .f32⟩
  | 118 => ⟨S2x1, .f32⟩
  | 119 => ⟨S2x64, .f32⟩
  | 120 => ⟨S2x64, .f32⟩
  | 121 => ⟨S_, .i32⟩
  | 122 => ⟨S_, .i32⟩
  | 123 => ⟨S2x64, .i32⟩
  | 124 => ⟨S2x64, .i32⟩
  | 125 => ⟨S2x64, .i32⟩
  | 126 => ⟨S_, .i32⟩
  | 127 => ⟨S2x64, .i32⟩
  | _ => ⟨S2x2048x1024, .f32⟩

abbrev hbmTy0_1 (i : Nat) : BufTy := match i % 128 with
  | 0 => ⟨S2x64, .i1⟩
  | 1 => ⟨S2x64, .i32⟩
  | 2 => ⟨S2x64, .i32⟩
  | 3 => ⟨S_, .i32⟩
  | 4 => ⟨S2x64, .i32⟩
  | 5 => ⟨S2x64, .i1⟩
  | 6 => ⟨S2x64, .i1⟩
  | 7 => ⟨S_, .i32⟩
  | 8 => ⟨S2x64, .i32⟩
  | 9 => ⟨S2x64, .i32⟩
  | 10 => ⟨S2x64, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S2x64, .i32⟩
  | 18 => ⟨S2x64, .i32⟩
  | 19 => ⟨S_, .i32⟩
  | 20 => ⟨S2x64, .i32⟩
  | 21 => ⟨S2x64, .i1⟩
  | 22 => ⟨S_, .i32⟩
  | 23 => ⟨S2x64, .i32⟩
  | 24 => ⟨S2x64, .i1⟩
  | 25 => ⟨S_, .i32⟩
  | 26 => ⟨S_, .i1⟩
  | 27 => ⟨S2x64, .i1⟩
  | 28 => ⟨S2x64, .i1⟩
  | 29 => ⟨S2x64, .i1⟩
  | 30 => ⟨S2x64, .i32⟩
  | 31 => ⟨S2x64, .i32⟩
  | 32 => ⟨S2x64, .i32⟩
  | 33 => ⟨S2x64x1, .i32⟩
  | 34 => ⟨S2x64x1, .i32⟩
  | 35 => ⟨S2x64x2, .i32⟩
  | 36 => ⟨S2x2048, .i32⟩
  | 37 => ⟨S_, .i32⟩
  | 38 => ⟨S2, .i32⟩
  | 39 => ⟨S2, .i32⟩
  | 40 => ⟨S2, .i32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S512x1024, .f32⟩
  | .local _ .vmem, ⟨5, _⟩ => ⟨S512, .f32⟩
  | .local _ .vmem, ⟨6, _⟩ => ⟨S512x1024, .f32⟩
  | .local _ .vmem, ⟨7, _⟩ => ⟨S512, .f32⟩
  | .local _ .vmem, ⟨8, _⟩ => ⟨S1x256x2048, .f32⟩
  | .local _ .vmem, ⟨9, _⟩ => ⟨S1x256x2048, .f32⟩
  | .local _ .vmem, ⟨10, _⟩ => ⟨S1x8x256, .f32⟩
  | .local _ .vmem, ⟨11, _⟩ => ⟨S1x8x256, .f32⟩
  | .local _ .vmem, ⟨12, _⟩ => ⟨S2048x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_values : Ref sig .tc := ⟨.hbm, 11, rfl⟩
abbrev main_indices : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_c_1 : Ref sig .tc := ⟨.hbm, 23, rfl⟩
abbrev main_call2_c_2 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_c_3 : Ref sig .tc := ⟨.hbm, 31, rfl⟩
abbrev main_call2_v11 : Ref sig .tc := ⟨.hbm, 32, rfl⟩
abbrev main_call2_v12 : Ref sig .tc := ⟨.hbm, 33, rfl⟩
abbrev main_call2_v13 : Ref sig .tc := ⟨.hbm, 34, rfl⟩
abbrev main_call2_cst : Ref sig .tc := ⟨.hbm, 35, rfl⟩
abbrev main_call2_v14 : Ref sig .tc := ⟨.hbm, 36, rfl⟩
abbrev main_v7 : Ref sig .tc := ⟨.hbm, 37, rfl⟩
abbrev main_v8 : Ref sig .tc := ⟨.hbm, 38, rfl⟩
abbrev main_values_0 : Ref sig .tc := ⟨.hbm, 39, rfl⟩
abbrev main_indices_1 : Ref sig .tc := ⟨.hbm, 40, rfl⟩
abbrev main_c : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_c : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_0 : Ref sig .tc := ⟨.hbm, 55, rfl⟩
abbrev main_call3_v12 : Ref sig .tc := ⟨.hbm, 56, rfl⟩
abbrev main_call3_v13 : Ref sig .tc := ⟨.hbm, 57, rfl⟩
abbrev main_v9 : Ref sig .tc := ⟨.hbm, 58, rfl⟩
abbrev main_call4_c : Ref sig .tc := ⟨.hbm, 59, rfl⟩
abbrev main_call4_v0 : Ref sig .tc := ⟨.hbm, 60, rfl⟩
abbrev main_call4_v1 : Ref sig .tc := ⟨.hbm, 61, rfl⟩
abbrev main_call4_c_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_c_1 : Ref sig .tc := ⟨.hbm, 67, rfl⟩
abbrev main_call4_c_2 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_c_3 : Ref sig .tc := ⟨.hbm, 75, rfl⟩
abbrev main_call4_v12 : Ref sig .tc := ⟨.hbm, 76, rfl⟩
abbrev main_call4_v13 : Ref sig .tc := ⟨.hbm, 77, rfl⟩
abbrev main_call4_c_4 : Ref sig .tc := ⟨.hbm, 78, rfl⟩
abbrev main_call4_v14 : Ref sig .tc := ⟨.hbm, 79, rfl⟩
abbrev main_v10 : Ref sig .tc := ⟨.hbm, 80, rfl⟩
abbrev main_c_2 : Ref sig .tc := ⟨.hbm, 81, rfl⟩
abbrev main_v11 : Ref sig .tc := ⟨.hbm, 82, rfl⟩
abbrev main_v12 : Ref sig .tc := ⟨.hbm, 83, rfl⟩
abbrev main_c_3 : Ref sig .tc := ⟨.hbm, 84, rfl⟩
abbrev main_call5_v0 : Ref sig .tc := ⟨.hbm, 85, rfl⟩
abbrev main_call5_c : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_c_1 : Ref sig .tc := ⟨.hbm, 92, rfl⟩
abbrev main_call5_v5 : Ref sig .tc := ⟨.hbm, 93, rfl⟩
abbrev main_call5_v6 : Ref sig .tc := ⟨.hbm, 94, rfl⟩
abbrev main_call5_c_2 : Ref sig .tc := ⟨.hbm, 95, rfl⟩
abbrev main_call5_v7 : Ref sig .tc := ⟨.hbm, 96, rfl⟩
abbrev main_call5_v8 : Ref sig .tc := ⟨.hbm, 97, rfl⟩
abbrev main_call5_c_3 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_v12 : Ref sig .tc := ⟨.hbm, 102, rfl⟩
abbrev main_call5_v13 : Ref sig .tc := ⟨.hbm, 103, rfl⟩
abbrev main_call5_v14 : Ref sig .tc := ⟨.hbm, 104, rfl⟩
abbrev main_v13 : Ref sig .tc := ⟨.hbm, 105, rfl⟩
abbrev main_v14 : Ref sig .tc := ⟨.hbm, 106, rfl⟩
abbrev main_cst : Ref sig .tc := ⟨.hbm, 107, rfl⟩
abbrev main_v15 : Ref sig .tc := ⟨.hbm, 108, rfl⟩
abbrev main_cst_4 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_cst_5 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_c_6 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_v5 : Ref sig .tc := ⟨.hbm, 127, rfl⟩
abbrev main_call6_v6 : Ref sig .tc := ⟨.hbm, 128, rfl⟩
abbrev main_call6_v7 : Ref sig .tc := ⟨.hbm, 129, rfl⟩
abbrev main_call6_v8 : Ref sig .tc := ⟨.hbm, 130, rfl⟩
abbrev main_call6_c : Ref sig .tc := ⟨.hbm, 131, rfl⟩
abbrev main_call6_v9 : Ref sig .tc := ⟨.hbm, 132, rfl⟩
abbrev main_call6_v10 : Ref sig .tc := ⟨.hbm, 133, rfl⟩
abbrev main_call6_v11 : Ref sig .tc := ⟨.hbm, 134, rfl⟩
abbrev main_call6_c_0 : Ref sig .tc := ⟨.hbm, 135, rfl⟩
abbrev main_call6_v12 : Ref sig .tc := ⟨.hbm, 136, rfl⟩
abbrev main_call6_v13 : Ref sig .tc := ⟨.hbm, 137, rfl⟩
abbrev main_v26 : Ref sig .tc := ⟨.hbm, 138, rfl⟩
abbrev main_c_7 : Ref sig .tc := ⟨.hbm, 139, rfl⟩
abbrev main_call7_v0 : Ref sig .tc := ⟨.hbm, 140, rfl⟩
abbrev main_call7_c : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_c_1 : Ref sig .tc := ⟨.hbm, 147, rfl⟩
abbrev main_call7_v5 : Ref sig .tc := ⟨.hbm, 148, rfl⟩
abbrev main_call7_v6 : Ref sig .tc := ⟨.hbm, 149, rfl⟩
abbrev main_call7_c_2 : Ref sig .tc := ⟨.hbm, 150, rfl⟩
abbrev main_call7_v7 : Ref sig .tc := ⟨.hbm, 151, rfl⟩
abbrev main_call7_v8 : Ref sig .tc := ⟨.hbm, 152, rfl⟩
abbrev main_call7_c_3 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_v12 : Ref sig .tc := ⟨.hbm, 157, rfl⟩
abbrev main_call7_v13 : Ref sig .tc := ⟨.hbm, 158, rfl⟩
abbrev main_call7_v14 : Ref sig .tc := ⟨.hbm, 159, rfl⟩
abbrev main_v27 : Ref sig .tc := ⟨.hbm, 160, rfl⟩
abbrev main_v28 : Ref sig .tc := ⟨.hbm, 161, rfl⟩
abbrev main_v29 : Ref sig .tc := ⟨.hbm, 162, rfl⟩
abbrev main_v30 : Ref sig .tc := ⟨.hbm, 163, rfl⟩
abbrev main_v31 : Ref sig .tc := ⟨.hbm, 164, rfl⟩
abbrev main_c_8 : Ref sig .tc := ⟨.hbm, 165, rfl⟩
abbrev main_v32 : Ref sig .tc := ⟨.hbm, 166, rfl⟩
abbrev main_v33 : Ref sig .tc := ⟨.hbm, 167, rfl⟩
abbrev main_v34 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "rs" => some (((Real.sqrt 512)⁻¹ : ℝ) : EReal)
  | _ => none
-- ==== ReferenceIdeal.lean ====
abbrev S2x2048x1024 : Shape := ⟨3, ![2, 2048, 1024]⟩
abbrev S2x2048 : Shape := ⟨2, ![2, 2048]⟩
abbrev S512x1024 : Shape := ⟨2, ![512, 1024]⟩
abbrev S512 : Shape := ⟨1, ![512]⟩
abbrev S1024x512 : Shape := ⟨2, ![1024, 512]⟩
abbrev S2x2048x512 : Shape := ⟨3, ![2, 2048, 512]⟩
abbrev S1x1x512 : Shape := ⟨3, ![1, 1, 512]⟩
abbrev S2x2048x2048 : Shape := ⟨3, ![2, 2048, 2048]⟩
abbrev S_ : Shape := ⟨0, ![]⟩
abbrev S2x2048x1 : Shape := ⟨3, ![2, 2048, 1]⟩
abbrev S2x1x2048 : Shape := ⟨3, ![2, 1, 2048]⟩
abbrev S2048x2048 : Shape := ⟨2, ![2048, 2048]⟩
abbrev S1x2048x2048 : Shape := ⟨3, ![1, 2048, 2048]⟩
abbrev S2x4194304 : Shape := ⟨2, ![2, 4194304]⟩
abbrev S2x64 : Shape := ⟨2, ![2, 64]⟩
abbrev S2 : Shape := ⟨1, ![2]⟩
abbrev S2x1 : Shape := ⟨2, ![2, 1]⟩
abbrev S2x64x1 : Shape := ⟨3, ![2, 64, 1]⟩
abbrev S2x64x2 : Shape := ⟨3, ![2, 64, 2]⟩

abbrev nBuf : Space → Nat
  | .hbm => 104
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i1⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S2x2048x512, .f32⟩
  | .hbm, ⟨8, _⟩ => ⟨S1x1x512, .f32⟩
  | .hbm, ⟨9, _⟩ => ⟨S2x2048x512, .f32⟩
  | .hbm, ⟨10, _⟩ => ⟨S2x2048x512, .f32⟩
  | .hbm, ⟨11, _⟩ => ⟨S1024x512, .f32⟩
  | .hbm, ⟨12, _⟩ => ⟨S2x2048x512, .f32⟩
  | .hbm, ⟨13, _⟩ => ⟨S1x1x512, .f32⟩
  | .hbm, ⟨14, _⟩ => ⟨S2x2048x512, .f32⟩
  | .hbm, ⟨15, _⟩ => ⟨S2x2048x512, .f32⟩
  | .hbm, ⟨16, _⟩ => ⟨S2x2048x2048, .f32⟩
  | .hbm, ⟨17, _⟩ => ⟨S_, .f32⟩
  | .hbm, ⟨18, _⟩ => ⟨S_, .f32⟩
  | .hbm, ⟨19, _⟩ => ⟨S2x2048x2048, .f32⟩
  | .hbm, ⟨20, _⟩ => ⟨S2x2048x2048, .f32⟩
  | .hbm, ⟨21, _⟩ => ⟨S2x2048x1, .i1⟩
  | .hbm, ⟨22, _⟩ => ⟨S2x1x2048, .i1⟩
  | .hbm, ⟨23, _⟩ => ⟨S2x2048x2048, .i1⟩
  | .hbm, ⟨24, _⟩ => ⟨S2x2048x2048, .i1⟩
  | .hbm, ⟨25, _⟩ => ⟨S2x2048x2048, .i1⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S1x2048x2048, .i1⟩
  | .hbm, ⟨33, _⟩ => ⟨S1x2048x2048, .i1⟩
  | .hbm, ⟨34, _⟩ => ⟨S2x2048x2048, .i1⟩
  | .hbm, ⟨35, _⟩ => ⟨S2x2048x2048, .i1⟩
  | .hbm, ⟨36, _⟩ => ⟨S2x4194304, .f32⟩
  | .hbm, ⟨37, _⟩ => ⟨S2x4194304, .i1⟩
  | .hbm, ⟨38, _⟩ => ⟨S_, .f32⟩
  | .hbm, ⟨39, _⟩ => ⟨S_, .f32⟩
  | .hbm, ⟨40, _⟩ => ⟨S2x4194304, .f32⟩
  | .hbm, ⟨41, _⟩ => ⟨S2x4194304, .f32⟩
  | .hbm, ⟨42, _⟩ => ⟨S2x64, .f32⟩
  | .hbm, ⟨43, _⟩ => ⟨S2x64, .i32⟩
  | .hbm, ⟨44, _⟩ => ⟨S_, .f32⟩
  | .hbm, ⟨45, _⟩ => ⟨S2, .f32⟩
  | .hbm, ⟨46, _⟩ => ⟨S_, .f32⟩
  | .hbm, ⟨47, _⟩ => ⟨S2, .f32⟩
  | .hbm, ⟨48, _⟩ => ⟨S2, .f32⟩
  | .hbm, ⟨49, _⟩ => ⟨S2x1, .f32⟩
  | .hbm, ⟨50, _⟩ => ⟨S2x64, .f32⟩
  | .hbm, ⟨51, _⟩ => ⟨S2x64, .f32⟩
  | .hbm, ⟨52, _⟩ => ⟨S2x64, .f32⟩
  | .hbm, ⟨53, _⟩ => ⟨S_, .f32⟩
  | .hbm, ⟨54, _⟩ => ⟨S2, .f32⟩
  | .hbm, ⟨55, _⟩ => ⟨S2x1, .f32⟩
  | .hbm, ⟨56, _⟩ => ⟨S2x64, .f32⟩
  | .hbm, ⟨57, _⟩ => ⟨S2x64, .f32⟩
  | .hbm, ⟨58, _⟩ => ⟨S_, .i32⟩
  | .hbm, ⟨59, _⟩ => ⟨S_, .i32⟩
  | .hbm, ⟨60, _⟩ => ⟨S2x64, .i32⟩
  | .hbm, ⟨61, _⟩ => ⟨S2x64, .i32⟩
  | .hbm, ⟨62, _⟩ => ⟨S2x64, .i32⟩
  | .hbm, ⟨63, _⟩ => ⟨S_, .i32⟩
  | .hbm, ⟨64, _⟩ => ⟨S2x64, .i32⟩
  | .hbm, ⟨65, _⟩ => ⟨S2x64, .i1⟩
  | .hbm, ⟨66, _⟩ => ⟨S2x64, .i32⟩
  | .hbm, ⟨67, _⟩ => ⟨S2x64, .i32⟩
  | .hbm, ⟨68, _⟩ => ⟨S_, .i32⟩
  | .hbm, ⟨69, _⟩ => ⟨S2x64, .i32⟩
  | .hbm, ⟨70, _⟩ => ⟨S2x64, .i1⟩
  | .hbm, ⟨71, _⟩ => ⟨S2x64, .i1⟩
  | .hbm, ⟨72, _⟩ => ⟨S_, .i32⟩
  | .hbm, ⟨73, _⟩ => ⟨S2x64, .i32⟩
  | .hbm, ⟨74, _⟩ => ⟨S2x64, .i32⟩
  | .hbm, ⟨75, _⟩ => ⟨S2x64, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S2x64, .i32⟩
  | .hbm, ⟨83, _⟩ => ⟨S2x64, .i32⟩
  | .hbm, ⟨84, _⟩ => ⟨S_, .i32⟩
  | .hbm, ⟨85, _⟩ => ⟨S2x64, .i32⟩
  | .hbm, ⟨86, _⟩ => ⟨S2x64, .i1⟩
  | .hbm, ⟨87, _⟩ => ⟨S_, .i32⟩
  | .hbm, ⟨88, _⟩ => ⟨S2x64, .i32⟩
  | .hbm, ⟨89, _⟩ => ⟨S2x64, .i1⟩
  | .hbm, ⟨90, _⟩ => ⟨S_, .i32⟩
  | .hbm, ⟨91, _⟩ => ⟨S_, .i1⟩
  | .hbm, ⟨92, _⟩ => ⟨S2x64, .i1⟩
  | .hbm, ⟨93, _⟩ => ⟨S2x64, .i1⟩
  | .hbm, ⟨94, _⟩ => ⟨S2x64, .i1⟩
  | .hbm, ⟨95, _⟩ => ⟨S2x64, .i32⟩
  | .hbm, ⟨96, _⟩ => ⟨S2x64, .i32⟩
  | .hbm, ⟨97, _⟩ => ⟨S2x64, .i32⟩
  | .hbm, ⟨98, _⟩ => ⟨S2x64x1, .i32⟩
  | .hbm, ⟨99, _⟩ => ⟨S2x64x1, .i32⟩
  | .hbm, ⟨100, _⟩ => ⟨S2x64x2, .i32⟩
  | .hbm, ⟨101, _⟩ => ⟨S2x4194304, .i32⟩
  | .hbm, ⟨102, _⟩ => ⟨S_, .i32⟩
  | .hbm, ⟨103, _⟩ => ⟨S2, .i32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_v30 : Ref sig .tc := ⟨.hbm, 41, rfl⟩
abbrev main_values : Ref sig .tc := ⟨.hbm, 42, rfl⟩
abbrev main_indices : Ref sig .tc := ⟨.hbm, 43, rfl⟩
abbrev main_cst_1 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v42 : Ref sig .tc := ⟨.hbm, 75, rfl⟩
abbrev main_c_5 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_1 : Ref sig .tc := ⟨.hbm, 84, rfl⟩
abbrev main_call2_v5 : Ref sig .tc := ⟨.hbm, 85, rfl⟩
abbrev main_call2_v6 : Ref sig .tc := ⟨.hbm, 86, rfl⟩
abbrev main_call2_c_2 : Ref sig .tc := ⟨.hbm, 87, rfl⟩
abbrev main_call2_v7 : Ref sig .tc := ⟨.hbm, 88, rfl⟩
abbrev main_call2_v8 : Ref sig .tc := ⟨.hbm, 89, rfl⟩
abbrev main_call2_c_3 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_c_6 : Ref sig .tc := ⟨.hbm, 102, rfl⟩
abbrev main_v48 : Ref sig .tc := ⟨.hbm, 103, rfl⟩

abbrev nD : Nat := 1
abbrev τ : Topo := Topo.v7x

variable {F : FTy → Type} [FloatOps F]
-- ==== Proof.TopPrefix.lean ====
/- Facts about the first positions of a stable descending sort, as a top-k selection reads them. -/
module

public import Idealize.ShloMosaic.Lib.SortPrefix

@[expose] public section

namespace Cert.TopPrefix

open Idealize.ShloMosaic

variable {α : Type} [LinearOrder α]

/-- Greater value first. -/
def gtBy {n : Nat} (v : Fin n → α) (k k' : Fin n) : Bool := decide (v k' < v k)

/-- Greater value first, the earlier position first among equal values. -/
def ahead {n : Nat} (v : Fin n → α) (k k' : Fin n) : Bool := gtBy v k k' || (decide (v k = v k') && decide (k < k'))

theorem ahead_iff {n : Nat} (v : Fin n → α) (k k' : Fin n) : ahead v k k' = true ↔ v k' < v k ∨ (v k = v k' ∧ k < k') := by
  simp [ahead, gtBy]

theorem strict {n : Nat} (v : Fin n → α) : StrictTotalBefore (ahead v) :=
  StrictTotalBefore.of_key_then_position (fun a b : α => decide (b < a)) v (fun a => by simp)
    (fun a b c h h' => by simp only [decide_eq_true_eq] at *; exact lt_trans h' h)
    (fun a b => by
      simp only [decide_eq_true_eq]
      rcases lt_trichotomy a b with h | h | h
      · exact .inr (.inr h)
      · exact .inr (.inl h)
      · exact .inl h)

/-- On ascending positions a stable sort by value alone puts the earlier position first among equal values. -/
theorem stableSort_gtBy {n : Nat} (v : Fin n → α) (l : List (Fin n)) (hl : l.Pairwise (· < ·)) :
    stableSort (gtBy v) l = stableSort (ahead v) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : decide (b < a) = false := by simp [le_of_lt hab]
    simp [ahead, this]

theorem sortedFrom_gtBy {n : Nat} (v : Fin n → α) : sortedFrom (gtBy v) = sortedFrom (ahead v) := by
  funext k
  have e : sortPositions n (gtBy v) = sortPositions n (ahead v) := stableSort_gtBy v _ (List.pairwise_lt_finRange n)
  unfold sortedFrom
  rw [List.get_of_eq e]
  rfl

/-- The sort's order: an earlier rank is ahead of a later one. -/
theorem ahead_sortedFrom {n : Nat} (v : Fin n → α) (i j : Fin n) (h : i < j) :
    ahead v (sortedFrom (ahead v) i) (sortedFrom (ahead v) j) = true := by
  have hB := strict v
  have h1 := sortedFrom_noInversion (ahead v) (ahead v) hB.asymm (fun _ _ h => h) hB.negTrans i j h
  have hne : sortedFrom (ahead v) i ≠ sortedFrom (ahead v) j := fun e => absurd (sortedFrom_injective _ e) (ne_of_lt h)
  rcases hB.total _ _ hne with h2 | h2
  · exact h2
  · rw [h2] at h1; exact absurd h1 (by decide)

/-- An element ahead of another has the smaller rank. -/
theorem rank_lt {n : Nat} (v : Fin n → α) (i j : Fin n)
    (h : ahead v (sortedFrom (ahead v) i) (sortedFrom (ahead v) j) = true) : i < j := by
  rcases lt_trichotomy i j with h' | h' | h'
  · exact h'
  · subst h'; rw [(strict v).irrefl] at h; exact absurd h (by decide)
  · have := (strict v).asymm _ _ h
    rw [ahead_sortedFrom v j i h'] at this
    exact absurd this (by decide)

/-- The first elements by value lie in the first groups by greatest value: if an element is among the first `K`, its
    group is among the first `K` groups, ordered by their greatest element. -/
theorem group_rank_lt {N G : Nat} (v : Fin N → α) (g : Fin N → Fin G) (M : Fin G → α) (hle : ∀ e, v e ≤ M (g e))
    (hat : ∀ c, ∃ e, g e = c ∧ v e = M c) (hmono : ∀ e e', e ≤ e' → g e ≤ g e') (j : Fin N) (q : Fin G)
    (hq : sortedFrom (ahead M) q = g (sortedFrom (ahead v) j)) : q.val ≤ j.val := by
  choose w hw1 hw2 using hat
  have key : ∀ q' : Fin G, q' < q → ∃ i : Fin N, i < j ∧ sortedFrom (ahead v) i = w (sortedFrom (ahead M) q') := by
    intro q' hq'
    obtain ⟨i, hi⟩ := sortedFrom_surjective (ahead v) (w (sortedFrom (ahead M) q'))
    refine ⟨i, rank_lt v i j ?_, hi⟩
    have hM := (ahead_iff M _ _).mp (ahead_sortedFrom M q' q hq')
    rw [hq] at hM
    rw [hi, ahead_iff]
    have h1 := hle (sortedFrom (ahead v) j)
    rcases hM with h | ⟨h, h'⟩
    · exact .inl (by rw [hw2]; exact lt_of_le_of_lt h1 h)
    · rcases lt_or_eq_of_le h1 with h2 | h2
      · exact .inl (by rw [hw2, h]; exact h2)
      · refine .inr ⟨by rw [hw2, h, h2], ?_⟩
        by_contra hn
        have := hmono _ _ (not_lt.mp hn)
        rw [hw1] at this
        exact absurd h' (not_lt.mpr this)
  have key' : ∀ a : Fin q.val, ∃ i : Fin N, i < j ∧ sortedFrom (ahead v) i = w (sortedFrom (ahead M) (a.castLE (le_of_lt q.isLt))) :=
    fun a => key _ (Fin.lt_def.mpr a.isLt)
  choose f hf1 hf2 using key'
  have hinj : Function.Injective fun a : Fin q.val => (⟨(f a).val, Fin.lt_def.mp (hf1 a)⟩ : Fin j.val) := by
    intro a b hab
    have hab' : f a = f b := Fin.ext (congrArg (fun z : Fin j.val => z.val) hab)
    have h1 := hf2 a
    rw [hab', hf2 b] at h1
    have h3 : sortedFrom (ahead M) (b.castLE (le_of_lt q.isLt)) = sortedFrom (ahead M) (a.castLE (le_of_lt q.isLt)) := by
      rw [← hw1 (sortedFrom (ahead M) (b.castLE _)), ← hw1 (sortedFrom (ahead M) (a.castLE _)), h1]
    have h4 := sortedFrom_injective _ h3
    exact Fin.ext (congrArg (fun z : Fin G => z.val) h4).symm
  simpa using Fintype.card_le_of_injective _ hinj

/-- A selection of positions, in order, that contains the first `k` elements has the same first `k` elements. -/
theorem first_of_selection {N P k : Nat} (hN : k ≤ N) (hP : k ≤ P) (v : Fin N → α) (f : Fin P → Fin N) (hf : StrictMono f)
    (hc : ∀ j : Fin k, ∃ p, f p = sortedFrom (ahead v) (j.castLE hN)) (i : Fin k) :
    f (sortedFrom (ahead fun p => v (f p)) (i.castLE hP)) = sortedFrom (ahead v) (i.castLE hN) := by
  choose σ hσ using hc
  have hahead : ∀ p p', ahead (fun p => v (f p)) p p' = ahead v (f p) (f p') := by
    intro p p'
    simp [ahead, gtBy, hf.lt_iff_lt]
  rw [StrictTotalBefore.sortedFrom_eq_of_prefix (strict fun p => v (f p)) hP σ, hσ]
  · intro a b hab
    have h : f (σ a) = f (σ b) := by rw [hab]
    rw [hσ, hσ] at h
    exact Fin.ext (congrArg (fun z : Fin N => z.val) (sortedFrom_injective (ahead v) h))
  · intro a b hab
    rw [hahead, hσ, hσ]
    exact (strict v).asymm _ _ (ahead_sortedFrom v _ _ hab)
  · intro a p hp
    rw [hahead, hσ]
    obtain ⟨r, hr⟩ := sortedFrom_surjective (ahead v) (f p)
    have hrk : k ≤ r.val := by
      by_contra hlt
      refine hp ⟨r.val, not_le.mp hlt⟩ (hf.injective ?_)
      rw [hσ, ← hr]
      rfl
    rw [← hr]
    refine (strict v).asymm _ _ (ahead_sortedFrom v _ _ ?_)
    exact Fin.lt_def.mpr (lt_of_lt_of_le a.isLt hrk)

end Cert.TopPrefix

end
-- ==== Proof.Chunks.lean ====
/- The choice of the 64 greatest of 4194304 values through the 128 chunks of 256 with the greatest maxima. -/
module

public import proofs.«01_k».proof.Proof.TopPrefix

@[expose] public section

namespace Cert.Chunks

open Idealize.ShloMosaic Cert.TopPrefix

variable {α : Type} [LinearOrder α]

/-- The chunks with the greatest maxima, the greatest first. -/
def top (M : Fin 16384 → α) (q : Fin 128) : Fin 16384 := sortedFrom (ahead M) (q.castLE (by omega))

/-- The smaller chunk number first. -/
def before (M : Fin 16384 → α) (k k' : Fin 128) : Bool := decide (top M k < top M k')

/-- The chosen chunks in ascending order. -/
def ids (M : Fin 16384 → α) (q : Fin 128) : Fin 16384 := top M (sortedFrom (before M) q)

theorem top_injective (M : Fin 16384 → α) : Function.Injective (top M) := by
  intro a b h
  exact Fin.ext (congrArg (fun z : Fin 16384 => z.val) (sortedFrom_injective (ahead M) h))

theorem before_eq (M : Fin 16384 → α) : before M = gtBy fun k => OrderDual.toDual (top M k) := by
  funext k k'
  simp [before, gtBy]

theorem ids_strictMono (M : Fin 16384 → α) : StrictMono (ids M) := by
  intro a b hab
  have hs : sortedFrom (before M) = sortedFrom (ahead fun k => OrderDual.toDual (top M k)) := by
    rw [before_eq, sortedFrom_gtBy]
  have h := (ahead_iff _ _ _).mp (ahead_sortedFrom (fun k => OrderDual.toDual (top M k)) a b hab)
  rw [← hs, OrderDual.toDual_lt_toDual, OrderDual.toDual_inj] at h
  rcases h with h | ⟨h, _⟩
  · exact h
  · exact absurd (sortedFrom_injective _ (top_injective M h)) (ne_of_lt hab)

/-- The place among all values of a candidate. -/
def flat (M : Fin 16384 → α) (p : Fin 32768) : Fin 4194304 :=
  ⟨256 * (ids M ⟨p.val / 256, by omega⟩).val + p.val % 256, by
    have := (ids M ⟨p.val / 256, by omega⟩).isLt
    omega⟩

theorem flat_strictMono (M : Fin 16384 → α) : StrictMono (flat M) := by
  intro p p' h
  have h1 : p.val < p'.val := h
  rw [Fin.lt_def]
  show 256 * (ids M ⟨p.val / 256, by omega⟩).val + p.val % 256 < 256 * (ids M ⟨p'.val / 256, by omega⟩).val + p'.val % 256
  rcases Nat.lt_or_ge (p.val / 256) (p'.val / 256) with h2 | h2
  · have := Fin.lt_def.mp (ids_strictMono M (a := ⟨p.val / 256, by omega⟩) (b := ⟨p'.val / 256, by omega⟩) (Fin.lt_def.mpr h2))
    omega
  · have e : (⟨p.val / 256, by omega⟩ : Fin 128) = ⟨p'.val / 256, by omega⟩ := Fin.ext (by show p.val / 256 = p'.val / 256; omega)
    rw [e]
    omega

/-- The 64 greatest candidates are the 64 greatest of all values, in the same order, when `M` holds the chunks' maxima. -/
theorem first_candidates (v : Fin 4194304 → α) (M : Fin 16384 → α)
    (hle : ∀ e : Fin 4194304, v e ≤ M ⟨e.val / 256, by omega⟩)
    (hat : ∀ c, ∃ e : Fin 4194304, (⟨e.val / 256, by omega⟩ : Fin 16384) = c ∧ v e = M c) (i : Fin 64) :
    flat M (sortedFrom (ahead fun p => v (flat M p)) (i.castLE (by omega))) = sortedFrom (ahead v) (i.castLE (by omega)) := by
  refine first_of_selection (by omega) (by omega) v (flat M) (flat_strictMono M) (fun j => ?_) i
  obtain ⟨q, hq⟩ := sortedFrom_surjective (ahead M) (⟨(sortedFrom (ahead v) (j.castLE (by omega))).val / 256, by omega⟩ : Fin 16384)
  have hqj := group_rank_lt v (fun e => (⟨e.val / 256, by omega⟩ : Fin 16384)) M hle hat
    (fun e e' h => Fin.le_def.mpr (Nat.div_le_div_right (Fin.le_def.mp h))) _ q hq
  have hq64 : q.val ≤ j.val := hqj
  obtain ⟨r, hr⟩ := sortedFrom_surjective (before M) (⟨q.val, by omega⟩ : Fin 128)
  have hid : ids M r = ⟨(sortedFrom (ahead v) (j.castLE (by omega))).val / 256, by omega⟩ := by
    unfold ids
    rw [hr, ← hq]
    rfl
  refine ⟨⟨256 * r.val + (sortedFrom (ahead v) (j.castLE (by omega))).val % 256, by omega⟩, Fin.ext ?_⟩
  have e : (⟨(256 * r.val + (sortedFrom (ahead v) (j.castLE (by omega))).val % 256) / 256, by omega⟩ : Fin 128) = r :=
    Fin.ext (by show (256 * r.val + _ % 256) / 256 = r.val; omega)
  show 256 * (ids M ⟨(256 * r.val + (sortedFrom (ahead v) (j.castLE (by omega))).val % 256) / 256, by omega⟩).val
    + (256 * r.val + (sortedFrom (ahead v) (j.castLE (by omega))).val % 256) % 256 = _
  rw [e, hid]
  show 256 * ((sortedFrom (ahead v) (j.castLE (by omega))).val / 256) + _ = _
  omega

end Cert.Chunks

end
-- ==== Proof.TailOps.lean ====
/- The lines of the kernel program after the region, one group of lines at a time: each group's result as a plain
   function of the buffers the group reads. -/
module

public import proofs.«01_k».proof.Proof.Gen.KernelIdeal.Launch
public import Idealize.ShloMosaic.Lib.StableHlo.Run

@[expose] public section

set_option maxRecDepth 8192

noncomputable section

namespace Cert.KernelIdeal.Tail

open Idealize.ShloMosaic Idealize.ShloMosaic.TcCoe
open Idealize.ShloMosaic.StableHlo
open Cert.KernelIdeal Cert.KernelIdeal.Gen

variable {F : FTy → Type} [FloatOps F] [Named F]

/-- An integer array of a given shape. -/
abbrev I (s : Shape) := s.Idx → BitVec 32

/-- A scalar word spread over the 2×64 array. -/
def spread (n : I S_) : I S2x64 := broadcastInDim S2x64 ![] bcast_S_S2x64 n

/-- The rows of chunk maxima, in the order of the chunks of the flattened scores. -/
def chunkRow (cm : S2x64x256.Idx → F .f32) : S2x16384.Idx → F .f32 :=
  shapeCast S2x16384 (transpose S2x8x256x8 [0, 1, 3, 2] (shapeCast S2x8x8x256 cm shapeCasts_S2x64x256_S2x8x8x256)
    transposes_S2x8x8x256_S2x8x256x8_0_1_3_2) shapeCasts_S2x8x256x8_S2x16384

/-- The quotient rounded down, as the program writes it from the truncated quotient and the remainder. -/
def floorDiv (x : I S2x64) (n : I S_) : I S2x64 :=
  select (andi (cmpi .ne (signi x) (spread (signi n))) (cmpi .ne (Host.remsi x (spread n)) (spread (constantI S_ 32 0#32))))
    (subi (Host.divsi x (spread n)) (spread (constantI S_ 32 1#32))) (Host.divsi x (spread n))

/-- The divisor of the remainder below: one in place of zero. -/
def safeDivisor (n : I S_) : I S_ :=
  select (cmpi .eq n (constantI S_ 32 0#32)) (constantI S_ 32 1#32) n

/-- The remainder with the divisor's sign, as the program writes it. -/
def floorRem (x : I S2x64) (n : I S_) : I S2x64 :=
  select (andi (cmpi .ne (cmpi .slt (Host.remsi x (spread (safeDivisor n))) (spread (constantI S_ 32 0#32)))
        (broadcastInDim S2x64 ![] bcast_S_S2x64 (cmpi .slt (safeDivisor n) (constantI S_ 32 0#32))))
      (cmpi .ne (Host.remsi x (spread (safeDivisor n))) (spread (constantI S_ 32 0#32))))
    (addi (Host.remsi x (spread (safeDivisor n))) (spread (safeDivisor n))) (Host.remsi x (spread (safeDivisor n)))

/-- The chunk numbers counted from the end when negative. -/
def wrapChunk (i : I S2x128x1) : I S2x128x1 :=
  select (cmpi .slt i (broadcastInDim S2x128x1 ![] bcast_S_S2x128x1 (constantI S_ 32 0#32)))
    (addi i (broadcastInDim S2x128x1 ![] bcast_S_S2x128x1 (constantI S_ 32 16384#32))) i

/-- Whether a chunk number lies within the row. -/
def chunkInside (i : I S2x128x1) : S2x128.Idx → BitVec 1 :=
  Host.reduce IntOp.andi (andi (cmpi .sge i (broadcastInDim S2x128x1 ![] bcast_S_S2x128x1 (constantI S_ 32 0#32)))
    (cmpi .sle i (broadcastInDim S2x128x1 ![0, 1, 2] bcast_S1x1x1_S2x128x1_0_1_2
      (broadcastInDim S1x1x1 ![2] bcast_S1_S1x1x1_2 (constantI S1 32 16383#32))))) (constantI S_ 1 1#1)
    reducesTo_S2x128x1_S2x128_d2 h_S_

/-- The chosen chunks' scores, gathered. -/
def takeChunks (x : S2x16384x256.Idx → F .f32) (i : I S2x128x1) : S2x128x256.Idx → F .f32 :=
  select (broadcastInDim S2x128x256 ![0, 1] bcast_S2x128_S2x128x256_0_1 (chunkInside (wrapChunk i)))
    (Host.gather gather_S2x16384x256_S2x128x1_S2x128x256_2_1_0_0_1_2_11256 x (wrapChunk i))
    (broadcastInDim S2x128x256 ![] bcast_S_S2x128x256 (constant S_ .f32 0x7FC00000#32))

/-- The slots counted from the end when negative, one more axis added. -/
def wrapSlot (i : I S2x64) : I S2x64x1 :=
  shapeCast S2x64x1 (select (cmpi .slt i (spread (constantI S_ 32 0#32))) (addi i (spread (constantI S_ 32 128#32))) i)
    shapeCasts_S2x64_S2x64x1

/-- Whether a slot lies within the row of 128. -/
def slotInside (i : I S2x64x1) : S2x64.Idx → BitVec 1 :=
  Host.reduce IntOp.andi (andi (cmpi .sge i (broadcastInDim S2x64x1 ![] bcast_S_S2x64x1 (constantI S_ 32 0#32)))
    (cmpi .sle i (broadcastInDim S2x64x1 ![0, 1, 2] bcast_S1x1x1_S2x64x1_0_1_2
      (broadcastInDim S1x1x1 ![2] bcast_S1_S1x1x1_2 (constantI S1 32 127#32))))) (constantI S_ 1 1#1)
    reducesTo_S2x64x1_S2x64_d2 h_S_

/-- The chosen slots' chunk numbers, gathered. -/
def takeSlots (x : I S2x128) (i : I S2x64) : I S2x64 :=
  select (slotInside (wrapSlot i)) (Host.gather gather_S2x128_S2x64x1_S2x64_n_1_0_0_1_2_11 x (wrapSlot i))
    (spread (constantI S_ 32 2147483648#32))

/-- The rows' exponentials of the distances to the row's greatest value. -/
def expo (x : S2x64.Idx → F .f32) : S2x64.Idx → F .f32 :=
  Host.exp (subf x (broadcastInDim S2x64 ![0, 1] bcast_S2x1_S2x64_0_1 (broadcastInDim S2x1 ![0] bcast_S2_S2x1_0
    (maximumf (broadcastInDim S2 ![] bcast_S_S2 (constant S_ .f32 0xFF800000#32))
      (Host.reduce FloatOps.maximumf x (constant S_ .f32 0xFF800000#32) reducesTo_S2x64_S2_d1 h_S_)))))

/-- The softmax of each row. -/
def softmax (x : S2x64.Idx → F .f32) : S2x64.Idx → F .f32 :=
  Host.divf (expo x) (broadcastInDim S2x64 ![0, 1] bcast_S2x1_S2x64_0_1 (broadcastInDim S2x1 ![0] bcast_S2_S2x1_0
    (Host.reduceAdd (expo x) (constant S_ .f32 0x00000000#32) reducesTo_S2x64_S2_d1 h_S_)))

/-- Two arrays side by side along a new last axis. -/
def pairUp (a b : I S2x64) : I S2x64x2 :=
  concatenate S2x64x2 2 [⟨S2x64x1, broadcastInDim S2x64x1 ![0, 1] bcast_S2x64_S2x64x1_0_1 a⟩,
    ⟨S2x64x1, broadcastInDim S2x64x1 ![0, 1] bcast_S2x64_S2x64x1_0_1 b⟩] concatenates_S2x64x1_S2x64x1_S2x64x2_d2

/-- The number of set mask bits of a row. -/
def rowCount (x : S2x2048.Idx → BitVec 1) : I S2 :=
  Host.reduce IntOp.addi (extui 32 x natLt_1_32) (constantI S_ 32 0#32) reducesTo_S2x2048_S2_d1 h_S_

/-- The number of ordered pairs of different set positions. -/
def pairCount (x : S2x2048.Idx → BitVec 1) : I S2 := subi (muli (rowCount x) (rowCount x)) (rowCount x)

variable (V : Valuation τ sig (Elt F))

theorem l0_indices : after hostOps1 V (Proc.devRef .tc main_indices)
    = (Host.topK S2x128 1 (FloatOps.cmpfTotal .gt) (chunkRow (F := F) (V (Proc.devRef .tc main_v0_1))) sliceFits_S2x16384_S2x128).2 := by
  after_results_simp <;> rfl

theorem l1_ids : after hostOps1_1 V (Proc.devRef .tc main_v4)
    = Host.sort S2x128 1 comparator_i32_d1 (V (Proc.devRef .tc main_indices)) := by
  simp only [hostOps1_1, TRef.binary, TRef.nullary, TRef.ternary, TRef.unary, TRef.toBuf, TRef.ofBuf, cast_eq]
  after_results_simp <;> rfl

theorem l2_rows : after hostOps1_2 V (Proc.devRef .tc main_v5)
    = shapeCast S2x16384x256 (V (Proc.devRef .tc main_v0_0) : S2x2048x2048.Idx → F .f32) shapeCasts_S2x2048x2048_S2x16384x256 := by
  after_results_simp <;> rfl

theorem l2_ids : after hostOps1_2 V (Proc.devRef .tc main_v6)
    = broadcastInDim S2x128x1 ![0, 1] bcast_S2x128_S2x128x1_0_1 (V (Proc.devRef .tc main_v4) : I S2x128) := by
  after_results_simp <;> rfl

theorem l3_chunks : after hostOps1_3 V (Proc.devRef .tc main_v7)
    = takeChunks (F := F) (V (Proc.devRef .tc main_v5)) (V (Proc.devRef .tc main_v6)) := by
  simp only [hostOps1_3, TRef.binary, TRef.nullary, TRef.ternary, TRef.unary, TRef.toBuf, TRef.ofBuf, cast_eq]
  after_results_simp <;> rfl

theorem l4_values : after hostOps1_4 V (Proc.devRef .tc main_values_0)
    = (Host.topK S2x64 1 (FloatOps.cmpfTotal .gt) (shapeCast S2x32768 (V (Proc.devRef .tc main_v7) : S2x128x256.Idx → F .f32)
        shapeCasts_S2x128x256_S2x32768) sliceFits_S2x32768_S2x64).1 := by
  after_results_simp <;> rfl

theorem l4_slots : after hostOps1_4 V (Proc.devRef .tc main_indices_1)
    = (Host.topK S2x64 1 (FloatOps.cmpfTotal .gt) (shapeCast S2x32768 (V (Proc.devRef .tc main_v7) : S2x128x256.Idx → F .f32)
        shapeCasts_S2x128x256_S2x32768) sliceFits_S2x32768_S2x64).2 := by
  after_results_simp <;> rfl

theorem l4_width : after hostOps1_4 V (Proc.devRef .tc main_c) = (constantI S_ 32 256#32 : I S_) := by
  after_results_simp <;> rfl

theorem l5_quot : after hostOps1_5 V (Proc.devRef .tc main_v9)
    = floorDiv (V (Proc.devRef .tc main_indices_1)) (V (Proc.devRef .tc main_c)) := by
  simp only [hostOps1_5, TRef.binary, TRef.nullary, TRef.ternary, TRef.unary, TRef.toBuf, TRef.ofBuf, cast_eq]
  after_results_simp <;> rfl

theorem l6_chunk : after hostOps1_6 V (Proc.devRef .tc main_v10)
    = takeSlots (V (Proc.devRef .tc main_v4)) (V (Proc.devRef .tc main_v9)) := by
  simp only [hostOps1_6, TRef.binary, TRef.nullary, TRef.ternary, TRef.unary, TRef.reshape, TRef.toBuf, TRef.ofBuf, cast_eq]
  after_results_simp <;> rfl

theorem l7_base : after hostOps1_7 V (Proc.devRef .tc main_v12)
    = muli (V (Proc.devRef .tc main_v10) : I S2x64) (spread (constantI S_ 32 256#32)) := by
  after_results_simp <;> rfl

theorem l7_width : after hostOps1_7 V (Proc.devRef .tc main_c_3) = (constantI S_ 32 256#32 : I S_) := by
  after_results_simp <;> rfl

theorem l8_rem : after hostOps1_8 V (Proc.devRef .tc main_v13)
    = floorRem (V (Proc.devRef .tc main_indices_1)) (V (Proc.devRef .tc main_c_3)) := by
  simp only [hostOps1_8, TRef.binary, TRef.nullary, TRef.ternary, TRef.unary, TRef.toBuf, TRef.ofBuf, cast_eq]
  after_results_simp <;> rfl

theorem l9_flat : after hostOps1_9 V (Proc.devRef .tc main_v14)
    = addi (V (Proc.devRef .tc main_v12) : I S2x64) (V (Proc.devRef .tc main_v13)) := by
  after_results_simp <;> rfl

theorem l9_weights : after hostOps1_9 V (Proc.devRef .tc main_v25)
    = softmax (F := F) (V (Proc.devRef .tc main_values_0)) := by
  after_results_simp <;> rfl

theorem l9_width : after hostOps1_9 V (Proc.devRef .tc main_c_6) = (constantI S_ 32 2048#32 : I S_) := by
  after_results_simp <;> rfl

theorem l10_quot : after hostOps1_10 V (Proc.devRef .tc main_v26)
    = floorDiv (V (Proc.devRef .tc main_v14)) (V (Proc.devRef .tc main_c_6)) := by
  simp only [hostOps1_10, TRef.binary, TRef.nullary, TRef.ternary, TRef.unary, TRef.toBuf, TRef.ofBuf, cast_eq]
  after_results_simp <;> rfl

theorem l11_width : after hostOps1_11 V (Proc.devRef .tc main_c_7) = (constantI S_ 32 2048#32 : I S_) := by
  after_results_simp <;> rfl

theorem l12_rem : after hostOps1_12 V (Proc.devRef .tc main_v27)
    = floorRem (V (Proc.devRef .tc main_v14)) (V (Proc.devRef .tc main_c_7)) := by
  simp only [hostOps1_12, TRef.binary, TRef.nullary, TRef.ternary, TRef.unary, TRef.toBuf, TRef.ofBuf, cast_eq]
  after_results_simp <;> rfl

theorem l13_pairs : after hostOps1_13 V (Proc.devRef .tc main_v30)
    = pairUp (V (Proc.devRef .tc main_v26)) (V (Proc.devRef .tc main_v27)) := by
  after_results_simp <;> rfl

theorem l13_counts : after hostOps1_13 V (Proc.devRef .tc main_v34)
    = pairCount (V (Proc.devRef .tc main_arg1)) := by
  after_results_simp <;> rfl

end Cert.KernelIdeal.Tail

end
-- ==== Proof.Tail.lean ====
/- What the lines after the region leave in the three results, as functions of the region's two arrays and the mask. -/
module

public import proofs.«01_k».proof.Proof.TailOps
public import proofs.«01_k».proof.Proof.Gen.KernelIdeal.Frame

@[expose] public section

set_option maxRecDepth 8192

noncomputable section

namespace Cert.KernelIdeal.Tail

open Idealize.ShloMosaic Idealize.ShloMosaic.TcCoe
open Idealize.ShloMosaic.StableHlo
open Cert.KernelIdeal Cert.KernelIdeal.Gen

variable {F : FTy → Type} [FloatOps F] [Named F]

/-- The 128 chosen chunks, in ascending order. -/
def chosen (cm : S2x64x256.Idx → F .f32) : I S2x128 :=
  Host.sort S2x128 1 comparator_i32_d1
    (Host.topK S2x128 1 (FloatOps.cmpfTotal .gt) (chunkRow cm) sliceFits_S2x16384_S2x128).2

/-- The candidates: the chosen chunks' scores, one row per batch. -/
def candidates (s : S2x2048x2048.Idx → F .f32) (cm : S2x64x256.Idx → F .f32) : S2x32768.Idx → F .f32 :=
  shapeCast S2x32768 (takeChunks (shapeCast S2x16384x256 s shapeCasts_S2x2048x2048_S2x16384x256)
    (broadcastInDim S2x128x1 ![0, 1] bcast_S2x128_S2x128x1_0_1 (chosen cm))) shapeCasts_S2x128x256_S2x32768

/-- The 64 greatest candidates. -/
def best (s : S2x2048x2048.Idx → F .f32) (cm : S2x64x256.Idx → F .f32) : S2x64.Idx → F .f32 :=
  (Host.topK S2x64 1 (FloatOps.cmpfTotal .gt) (candidates s cm) sliceFits_S2x32768_S2x64).1

/-- The positions of the 64 greatest candidates. -/
def bestSlot (s : S2x2048x2048.Idx → F .f32) (cm : S2x64x256.Idx → F .f32) : I S2x64 :=
  (Host.topK S2x64 1 (FloatOps.cmpfTotal .gt) (candidates s cm) sliceFits_S2x32768_S2x64).2

/-- The positions of the 64 greatest candidates in the flattened scores. -/
def bestFlat (s : S2x2048x2048.Idx → F .f32) (cm : S2x64x256.Idx → F .f32) : I S2x64 :=
  addi (muli (takeSlots (chosen cm) (floorDiv (bestSlot s cm) (constantI S_ 32 256#32))) (spread (constantI S_ 32 256#32)))
    (floorRem (bestSlot s cm) (constantI S_ 32 256#32))

/-- The first result: the row and the column of each chosen score. -/
def rowCol (x : I S2x64) : I S2x64x2 :=
  pairUp (floorDiv x (constantI S_ 32 2048#32)) (floorRem x (constantI S_ 32 2048#32))

/-- A buffer one group of lines does not write keeps its contents. -/
theorem keep {ops : List (HloOp τ sig (Elt F))} {W : List (Ref sig .tc)}
    (h : ops.Forall fun op => op.writes ⊆ (W.map (Proc.devRef (τ := τ) .tc)).toFinset) (r : Ref sig .tc) (hr : r ∉ W)
    (V : Valuation τ sig (Elt F)) : after ops V (Proc.devRef .tc r) = V (Proc.devRef .tc r) :=
  after_of_writes_sub (r := r) ops V h hr

/-- All the lines after the region, group after group. -/
def tailOps : List (HloOp τ sig (Elt F)) :=
  List.flatten [hostOps1, hostOps1_1, hostOps1_2, hostOps1_3, hostOps1_4, hostOps1_5, hostOps1_6, hostOps1_7, hostOps1_8,
    hostOps1_9, hostOps1_10, hostOps1_11, hostOps1_12, hostOps1_13]

theorem after_tail (V : Valuation τ sig (Elt F)) : after tailOps V =
    after hostOps1_13 (after hostOps1_12 (after hostOps1_11 (after hostOps1_10 (after hostOps1_9 (after hostOps1_8
      (after hostOps1_7 (after hostOps1_6 (after hostOps1_5 (after hostOps1_4 (after hostOps1_3 (after hostOps1_2
        (after hostOps1_1 (after hostOps1 V))))))))))))) := by
  unfold tailOps
  simp only [List.flatten_cons, List.flatten_nil, List.append_nil, after_append]

variable (V : Valuation τ sig (Elt F))

/-- The lines up to the choice of the chunks. -/
abbrev V1 : Valuation τ sig (Elt F) := after hostOps1_1 (after hostOps1 V)
/-- The lines up to the choice of the candidates. -/
abbrev V4 : Valuation τ sig (Elt F) := after hostOps1_4 (after hostOps1_3 (after hostOps1_2 (V1 V)))
/-- The lines up to the chosen chunks' numbers. -/
abbrev V6 : Valuation τ sig (Elt F) := after hostOps1_6 (after hostOps1_5 (V4 V))
/-- The lines up to the positions in the flattened scores. -/
abbrev V9 : Valuation τ sig (Elt F) := after hostOps1_9 (after hostOps1_8 (after hostOps1_7 (V6 V)))

theorem V1_ids : V1 V (Proc.devRef .tc main_v4) = chosen (F := F) (V (Proc.devRef .tc main_v0_1)) := by
  unfold V1 chosen; rw [l1_ids, l0_indices]

theorem V1_scores : V1 V (Proc.devRef .tc main_v0_0) = V (Proc.devRef .tc main_v0_0) := by
  unfold V1
  rw [keep hostOps1_1_writes main_v0_0 (by decide), keep hostOps1_writes main_v0_0 (by decide)]

theorem V4_cand : shapeCast S2x32768 (after hostOps1_3 (after hostOps1_2 (V1 V)) (Proc.devRef .tc main_v7) : S2x128x256.Idx → F .f32)
      shapeCasts_S2x128x256_S2x32768
    = candidates (F := F) (V (Proc.devRef .tc main_v0_0)) (V (Proc.devRef .tc main_v0_1)) := by
  rw [l3_chunks, l2_rows, l2_ids, V1_ids, V1_scores]; rfl

theorem V4_values : V4 V (Proc.devRef .tc main_values_0)
    = best (F := F) (V (Proc.devRef .tc main_v0_0)) (V (Proc.devRef .tc main_v0_1)) := by
  unfold V4 best; rw [l4_values, V4_cand]

theorem V4_slots : V4 V (Proc.devRef .tc main_indices_1)
    = bestSlot (F := F) (V (Proc.devRef .tc main_v0_0)) (V (Proc.devRef .tc main_v0_1)) := by
  unfold V4 bestSlot; rw [l4_slots, V4_cand]

theorem V4_ids : V4 V (Proc.devRef .tc main_v4) = chosen (F := F) (V (Proc.devRef .tc main_v0_1)) := by
  unfold V4
  rw [keep hostOps1_4_writes main_v4 (by decide), keep hostOps1_3_writes main_v4 (by decide),
    keep hostOps1_2_writes main_v4 (by decide), V1_ids]

theorem V6_chunk : V6 V (Proc.devRef .tc main_v10) = takeSlots (chosen (F := F) (V (Proc.devRef .tc main_v0_1)))
    (floorDiv (bestSlot (F := F) (V (Proc.devRef .tc main_v0_0)) (V (Proc.devRef .tc main_v0_1))) (constantI S_ 32 256#32)) := by
  have hw : V4 V (Proc.devRef .tc main_c) = (constantI S_ 32 256#32 : I S_) := l4_width _
  unfold V6
  rw [l6_chunk, l5_quot, keep hostOps1_5_writes main_v4 (by decide), V4_ids, V4_slots, hw]

theorem V6_slots : V6 V (Proc.devRef .tc main_indices_1)
    = bestSlot (F := F) (V (Proc.devRef .tc main_v0_0)) (V (Proc.devRef .tc main_v0_1)) := by
  unfold V6
  rw [keep hostOps1_6_writes main_indices_1 (by decide), keep hostOps1_5_writes main_indices_1 (by decide), V4_slots]

theorem V6_values : V6 V (Proc.devRef .tc main_values_0)
    = best (F := F) (V (Proc.devRef .tc main_v0_0)) (V (Proc.devRef .tc main_v0_1)) := by
  unfold V6
  rw [keep hostOps1_6_writes main_values_0 (by decide), keep hostOps1_5_writes main_values_0 (by decide), V4_values]

theorem V9_flat : V9 V (Proc.devRef .tc main_v14)
    = bestFlat (F := F) (V (Proc.devRef .tc main_v0_0)) (V (Proc.devRef .tc main_v0_1)) := by
  unfold V9 bestFlat
  rw [l9_flat, l8_rem, l7_width, keep hostOps1_8_writes main_v12 (by decide), l7_base, V6_chunk,
    keep hostOps1_7_writes main_indices_1 (by decide), V6_slots]

theorem V9_weights : V9 V (Proc.devRef .tc main_v25)
    = softmax (best (F := F) (V (Proc.devRef .tc main_v0_0)) (V (Proc.devRef .tc main_v0_1))) := by
  unfold V9
  rw [l9_weights, keep hostOps1_8_writes main_values_0 (by decide), keep hostOps1_7_writes main_values_0 (by decide), V6_values]

theorem tail_weights : after tailOps V (Proc.devRef .tc main_v25)
    = softmax (best (F := F) (V (Proc.devRef .tc main_v0_0)) (V (Proc.devRef .tc main_v0_1))) := by
  rw [after_tail, keep hostOps1_13_writes main_v25 (by decide), keep hostOps1_12_writes main_v25 (by decide),
    keep hostOps1_11_writes main_v25 (by decide), keep hostOps1_10_writes main_v25 (by decide)]
  exact V9_weights V

theorem tail_pairs : after tailOps V (Proc.devRef .tc main_v30)
    = rowCol (bestFlat (F := F) (V (Proc.devRef .tc main_v0_0)) (V (Proc.devRef .tc main_v0_1))) := by
  have hf : after hostOps1_9 (after hostOps1_8 (after hostOps1_7 (V6 V))) (Proc.devRef .tc main_v14) = _ := V9_flat V
  rw [after_tail, l13_pairs, l12_rem, l11_width, keep hostOps1_12_writes main_v26 (by decide),
    keep hostOps1_11_writes main_v26 (by decide), l10_quot, l9_width, keep hostOps1_11_writes main_v14 (by decide),
    keep hostOps1_10_writes main_v14 (by decide), hf]
  rfl

theorem tail_counts : after tailOps V (Proc.devRef .tc main_v34) = pairCount (V (Proc.devRef .tc main_arg1)) := by
  rw [after_tail, l13_counts, keep hostOps1_12_writes main_arg1 (by decide), keep hostOps1_11_writes main_arg1 (by decide),
    keep hostOps1_10_writes main_arg1 (by decide), keep hostOps1_9_writes main_arg1 (by decide),
    keep hostOps1_8_writes main_arg1 (by decide), keep hostOps1_7_writes main_arg1 (by decide),
    keep hostOps1_6_writes main_arg1 (by decide), keep hostOps1_5_writes main_arg1 (by decide),
    keep hostOps1_4_writes main_arg1 (by decide), keep hostOps1_3_writes main_arg1 (by decide),
    keep hostOps1_2_writes main_arg1 (by decide), keep hostOps1_1_writes main_arg1 (by decide),
    keep hostOps1_writes main_arg1 (by decide)]

end Cert.KernelIdeal.Tail

end
-- ==== Proof.Select.lean ====
/- A top-k of a row, a sort of words and the gathers of the program, read at an index. -/
module

public import proofs.«01_k».proof.Proof.Chunks
public import proofs.«01_k».proof.Proof.Tail
public import Idealize.ShloMosaic.Lib.Pointwise
public import Idealize.ShloMosaic.PureOps.Ideal.Laws

@[expose] public section

noncomputable section

namespace Cert.Select

open Idealize.ShloMosaic Cert.TopPrefix

theorem along_ix2 {B n : Nat} (b : Fin B) (i k : Fin n) :
    ((ix2 b i : (⟨2, ![B, n]⟩ : Shape).Idx).along (1 : Fin 2) k : (⟨2, ![B, n]⟩ : Shape).Idx) = ix2 b k := by
  funext a
  match a with
  | ⟨0, _⟩ => rfl
  | ⟨1, _⟩ => rfl

theorem gt_eq (a b : Ideal .f32) : (FloatOps.cmpfTotal (F := Ideal) (φ := .f32) .gt a b == 1#1) = decide (b < a) := by
  rw [Ideal.cmpfTotal_def]
  by_cases h : b < a <;> simp [CmpDirection.ordered, Ideal.cmp, h]

section
variable {α β : Type} {B n : Nat}

theorem row_along (x : (⟨2, ![B, n]⟩ : Shape).Idx → α) (b : Fin B) (i : Fin n) :
    (fun k : Fin n => x ((ix2 b i : (⟨2, ![B, n]⟩ : Shape).Idx).along (1 : Fin 2) k)) = fun k => x (ix2 b k) :=
  funext fun k => congrArg x (along_ix2 b i k)

/-- A sort of two arrays along the rows, its first result at an index. -/
theorem sort2_fst (cmp : α × β → α × β → BitVec 1) (x : (⟨2, ![B, n]⟩ : Shape).Idx → α) (y : (⟨2, ![B, n]⟩ : Shape).Idx → β)
    (b : Fin B) (i : Fin n) : (Host.sort2 ⟨2, ![B, n]⟩ 1 cmp x y).1 (ix2 b i)
      = x (ix2 b (sortedFrom (fun k k' => cmp (x (ix2 b k), y (ix2 b k)) (x (ix2 b k'), y (ix2 b k')) == 1#1) i)) := by
  unfold Host.sort2
  rw [dif_pos (show 1 < (⟨2, ![B, n]⟩ : Shape).rank from (by decide : 1 < 2))]
  show (fun (g : Fin n → α) (g' : Fin n → β) => g (sortedFrom (fun k k' => cmp (g k, g' k) (g k', g' k') == 1#1) i))
    (fun k => x ((ix2 b i : (⟨2, ![B, n]⟩ : Shape).Idx).along (1 : Fin 2) k)) (fun k => y ((ix2 b i : (⟨2, ![B, n]⟩ : Shape).Idx).along (1 : Fin 2) k)) = _
  rw [row_along x, row_along y]

/-- The second result. -/
theorem sort2_snd (cmp : α × β → α × β → BitVec 1) (x : (⟨2, ![B, n]⟩ : Shape).Idx → α) (y : (⟨2, ![B, n]⟩ : Shape).Idx → β)
    (b : Fin B) (i : Fin n) : (Host.sort2 ⟨2, ![B, n]⟩ 1 cmp x y).2 (ix2 b i)
      = y (ix2 b (sortedFrom (fun k k' => cmp (x (ix2 b k), y (ix2 b k)) (x (ix2 b k'), y (ix2 b k')) == 1#1) i)) := by
  unfold Host.sort2
  rw [dif_pos (show 1 < (⟨2, ![B, n]⟩ : Shape).rank from (by decide : 1 < 2))]
  show (fun (g : Fin n → α) (g' : Fin n → β) => g' (sortedFrom (fun k k' => cmp (g k, g' k) (g k', g' k') == 1#1) i))
    (fun k => x ((ix2 b i : (⟨2, ![B, n]⟩ : Shape).Idx).along (1 : Fin 2) k)) (fun k => y ((ix2 b i : (⟨2, ![B, n]⟩ : Shape).Idx).along (1 : Fin 2) k)) = _
  rw [row_along x, row_along y]

/-- A sort of one array along the rows. -/
theorem sort_row (cmp : α → α → BitVec 1) (x : (⟨2, ![B, n]⟩ : Shape).Idx → α) (b : Fin B) (i : Fin n) :
    Host.sort ⟨2, ![B, n]⟩ 1 cmp x (ix2 b i) = x (ix2 b (sortedFrom (fun k k' => cmp (x (ix2 b k)) (x (ix2 b k')) == 1#1) i)) := by
  unfold Host.sort
  rw [dif_pos (show 1 < (⟨2, ![B, n]⟩ : Shape).rank from (by decide : 1 < 2))]
  show (fun g : Fin n → α => g (sortedFrom (fun k k' => cmp (g k) (g k') == 1#1) i)) (fun k => x ((ix2 b i : (⟨2, ![B, n]⟩ : Shape).Idx).along (1 : Fin 2) k)) = _
  rw [row_along x]

/-- The first columns of an array. -/
theorem first_columns {k : Nat} (hk : k ≤ n) (x : (⟨2, ![B, n]⟩ : Shape).Idx → α)
    (h : (⟨2, ![B, n]⟩ : Shape).Slices (fun _ => 0) ⟨2, ![B, k]⟩) (b : Fin B) (i : Fin k) :
    extractStridedSlice ⟨2, ![B, k]⟩ (fun _ => 0) x h (ix2 b i) = x (ix2 b (i.castLE hk)) := by
  unfold extractStridedSlice
  refine congrArg x (funext fun a => ?_)
  match a with
  | ⟨0, _⟩ => exact Fin.ext (Nat.zero_add _)
  | ⟨1, _⟩ => exact Fin.ext (Nat.zero_add _)

end

/-- The values of a row's top-k. -/
theorem topK_values {B n k : Nat} (hk : k ≤ n) (x : (⟨2, ![B, n]⟩ : Shape).Idx → Ideal .f32)
    (h : (⟨2, ![B, n]⟩ : Shape).Slices (fun _ => 0) ⟨2, ![B, k]⟩) (b : Fin B) (i : Fin k) :
    (Host.topK ⟨2, ![B, k]⟩ 1 (FloatOps.cmpfTotal .gt) x h).1 (ix2 b i)
      = x (ix2 b (sortedFrom (ahead fun p => (x (ix2 b p) : EReal)) (i.castLE hk))) := by
  rw [← sortedFrom_gtBy]
  unfold Host.topK
  dsimp only
  rw [first_columns hk, sort2_fst]
  simp only [gt_eq]
  rfl

/-- The positions of a row's top-k. -/
theorem topK_positions {B n k : Nat} (hk : k ≤ n) (x : (⟨2, ![B, n]⟩ : Shape).Idx → Ideal .f32)
    (h : (⟨2, ![B, n]⟩ : Shape).Slices (fun _ => 0) ⟨2, ![B, k]⟩) (b : Fin B) (i : Fin k) :
    (Host.topK ⟨2, ![B, k]⟩ 1 (FloatOps.cmpfTotal .gt) x h).2 (ix2 b i)
      = BitVec.ofNat 32 (sortedFrom (ahead fun p => (x (ix2 b p) : EReal)) (i.castLE hk)).val := by
  rw [← sortedFrom_gtBy]
  unfold Host.topK
  dsimp only
  rw [first_columns hk, sort2_snd]
  simp only [gt_eq]
  rw [dif_pos (show 1 < (⟨2, ![B, n]⟩ : Shape).rank from (by decide : 1 < 2))]
  rfl

end Cert.Select

end
-- ==== Proof.Takes.lean ====
/- The gathers and the integer quotients of the program, read at an index. -/
module

public import proofs.«01_k».proof.Proof.TailOps
public import Idealize.ShloMosaic.Lib.Pointwise
public import Idealize.ShloMosaic.Lib.ReduceAll
public import Idealize.ShloMosaic.Lib.Routing.Words

@[expose] public section

noncomputable section

namespace Cert.KernelIdeal.Takes

open Idealize.ShloMosaic Cert.KernelIdeal Cert.KernelIdeal.Gen Cert.KernelIdeal.Tail
open Idealize.ShloMosaic.Routing (slt_ofNat32 sle_ofNat32 msb_ofNat32 ofNat32_ne_zero divsi_word remsi_word)

/-- No small word is below zero. -/
theorem not_negative {g : Nat} (hg : g < 2 ^ 31) : IntOp.cmpi .slt (BitVec.ofNat 32 g) 0#32 = 0#1 := by
  show BitVec.ofBool ((BitVec.ofNat 32 g).slt (BitVec.ofNat 32 0)) = 0#1
  rw [slt_ofNat32 hg (by norm_num)]
  simp

theorem at_least_zero {g : Nat} (hg : g < 2 ^ 31) : IntOp.cmpi .sge (BitVec.ofNat 32 g) 0#32 = 1#1 := by
  show BitVec.ofBool ((BitVec.ofNat 32 0).sle (BitVec.ofNat 32 g)) = 1#1
  rw [sle_ofNat32 (by norm_num) hg]
  simp

theorem at_most {g n : Nat} (hn : n < 2 ^ 31) (hg : g ≤ n) : IntOp.cmpi .sle (BitVec.ofNat 32 g) (BitVec.ofNat 32 n) = 1#1 := by
  show BitVec.ofBool ((BitVec.ofNat 32 g).sle (BitVec.ofNat 32 n)) = 1#1
  rw [sle_ofNat32 (by omega) hn]
  simp [hg]

theorem spread_apply (n : I S_) (i : S2x64.Idx) : spread n i = n ix0 := by
  pointwise [spread]

/-- The quotient rounded down, of small words. -/
theorem floorDiv_apply (x : I S2x64) (n : I S_) (i : S2x64.Idx) {a b : Nat} (hx : x i = BitVec.ofNat 32 a) (hn : n ix0 = BitVec.ofNat 32 b)
    (ha : a < 2 ^ 31) (h0 : 0 < b) (hb : b < 2 ^ 31) : floorDiv x n i = BitVec.ofNat 32 (a / b) := by
  unfold floorDiv
  pointwise
  simp only [spread_apply, signi_apply, constantI_apply, hx, hn, remsi_word .host ha h0 hb, divsi_word .host ha h0 hb,
    msb_ofNat32 ha, msb_ofNat32 hb, if_neg (ofNat32_ne_zero h0 (show b < 2 ^ 32 by omega))]
  rcases Nat.eq_zero_or_pos a with h | h
  · subst h
    simp only [Nat.zero_mod, Nat.zero_div]
    rfl
  · rw [if_neg (ofNat32_ne_zero h (show a < 2 ^ 32 by omega))]
    simp only [Bool.false_eq_true, if_false]
    rw [show IntOp.cmpi .ne (1 : BitVec 32) 1 = 0#1 by decide]
    show Scalar.select (0#1 &&& _) _ _ = _
    rw [BitVec.zero_and]
    rfl

/-- The remainder, of small words. -/
theorem floorRem_apply (x : I S2x64) (n : I S_) (i : S2x64.Idx) {a b : Nat} (hx : x i = BitVec.ofNat 32 a) (hn : n ix0 = BitVec.ofNat 32 b)
    (ha : a < 2 ^ 31) (h0 : 0 < b) (hb : b < 2 ^ 31) : floorRem x n i = BitVec.ofNat 32 (a % b) := by
  have hs : safeDivisor n ix0 = BitVec.ofNat 32 b := by
    unfold safeDivisor
    pointwise
    rw [hn]
    have hne : BitVec.ofNat 32 b ≠ 0#32 := ofNat32_ne_zero h0 (by omega)
    have : IntOp.cmpi .eq (BitVec.ofNat 32 b) 0#32 = 0#1 := by
      show BitVec.ofBool (BitVec.ofNat 32 b == 0#32) = 0#1
      rw [beq_eq_false_iff_ne.mpr hne]
      rfl
    rw [this]
    rfl
  unfold floorRem
  have hr : a % b < 2 ^ 31 := lt_trans (Nat.mod_lt _ h0) hb
  pointwise
  simp only [spread_apply, constantI_apply, hx, hs, remsi_word .host ha h0 hb, not_negative hr, not_negative hb]
  rw [show IntOp.cmpi .ne (0#1) 0#1 = 0#1 by decide]
  show Scalar.select (0#1 &&& _) _ _ = _
  rw [BitVec.zero_and]
  rfl

/-- The gather of whole chunks. -/
theorem gather_chunks {α : Type} (x : S2x16384x256.Idx → α) (i : I S2x128x1) (b : Fin 2) (q : Fin 128) (l : Fin 256) (g : Fin 16384)
    (hg : i (ix3 b q 0) = BitVec.ofNat 32 g.val) :
    Host.gather gather_S2x16384x256_S2x128x1_S2x128x256_2_1_0_0_1_2_11256 x i (ix3 b q l) = x (ix3 b g l) := by
  unfold Host.gather
  refine congrArg x (funext fun a => Fin.ext ?_)
  generalize hd : gather_S2x16384x256_S2x128x1_S2x128x256_2_1_0_0_1_2_11256 = d
  show d.start (ix3 b q l) i a + d.batchCoord (ix3 b q l) a + d.offCoord (ix3 b q l) a = _
  subst hd
  match a with
  | ⟨0, _⟩ =>
    rw [GatherDims.start_batching _ _ _ _ (by decide +revert), GatherDims.offCoord_eq_zero _ _ _ (by decide +revert)]
    simp only [Nat.zero_add, Nat.add_zero]
    unfold GatherDims.batchCoord
    rw [dif_pos (by decide +revert)]
    rfl
  | ⟨1, _⟩ =>
    rw [GatherDims.batchCoord_eq_zero _ _ _ (by decide +revert), GatherDims.offCoord_eq_zero _ _ _ (by decide +revert)]
    simp only [Nat.add_zero]
    unfold GatherDims.start
    rw [dif_pos (by decide +revert)]
    show min (i _).toInt.toNat 16383 = g.val
    have hsi : ∀ h, gather_S2x16384x256_S2x128x1_S2x128x256_2_1_0_0_1_2_11256.siIdx (ix3 b q l) ⟨0, h⟩ = ix3 b q 0 := by
      intro h
      funext a
      match a with
      | ⟨0, _⟩ => rfl
      | ⟨1, _⟩ => rfl
      | ⟨2, _⟩ => rfl
    refine Eq.trans (congrArg (fun z : BitVec 32 => min z.toInt.toNat 16383) ((congrArg i (hsi _)).trans hg)) ?_
    have := g.isLt
    show min (BitVec.ofNat 32 g.val).toInt.toNat 16383 = g.val
    rw [WordCmp.toInt_ofNat_of_lt (w := 32) (by omega)]
    omega
  | ⟨2, _⟩ =>
    rw [GatherDims.batchCoord_eq_zero _ _ _ (by decide +revert)]
    unfold GatherDims.start
    rw [dif_neg (by decide +revert)]
    unfold GatherDims.offCoord
    rw [dif_pos (by decide +revert)]
    simp only [Nat.zero_add]
    rfl

/-- The gather of single words. -/
theorem gather_slots {α : Type} (x : S2x128.Idx → α) (i : I S2x64x1) (b : Fin 2) (q : Fin 64) (g : Fin 128)
    (hg : i (ix3 b q 0) = BitVec.ofNat 32 g.val) :
    Host.gather gather_S2x128_S2x64x1_S2x64_n_1_0_0_1_2_11 x i (ix2 b q) = x (ix2 b g) := by
  unfold Host.gather
  refine congrArg x (funext fun a => Fin.ext ?_)
  generalize hd : gather_S2x128_S2x64x1_S2x64_n_1_0_0_1_2_11 = d
  show d.start (ix2 b q) i a + d.batchCoord (ix2 b q) a + d.offCoord (ix2 b q) a = _
  subst hd
  match a with
  | ⟨0, _⟩ =>
    rw [GatherDims.start_batching _ _ _ _ (by decide +revert), GatherDims.offCoord_eq_zero _ _ _ (by decide +revert)]
    simp only [Nat.zero_add, Nat.add_zero]
    unfold GatherDims.batchCoord
    rw [dif_pos (by decide +revert)]
    rfl
  | ⟨1, _⟩ =>
    rw [GatherDims.batchCoord_eq_zero _ _ _ (by decide +revert), GatherDims.offCoord_eq_zero _ _ _ (by decide +revert)]
    simp only [Nat.add_zero]
    unfold GatherDims.start
    rw [dif_pos (by decide +revert)]
    have hsi : ∀ h, gather_S2x128_S2x64x1_S2x64_n_1_0_0_1_2_11.siIdx (ix2 b q) ⟨0, h⟩ = ix3 b q 0 := by
      intro h
      funext a
      match a with
      | ⟨0, _⟩ => rfl
      | ⟨1, _⟩ => rfl
      | ⟨2, _⟩ => rfl
    refine Eq.trans (congrArg (fun z : BitVec 32 => min z.toInt.toNat 127) ((congrArg i (hsi _)).trans hg)) ?_
    have := g.isLt
    show min (BitVec.ofNat 32 g.val).toInt.toNat 127 = g.val
    rw [WordCmp.toInt_ofNat_of_lt (w := 32) (by omega)]
    omega

/-- The chosen chunks, all within the row. -/
theorem takeChunks_apply (x : S2x16384x256.Idx → Ideal .f32) (i : I S2x128x1) (g : Fin 2 → Fin 128 → Fin 16384)
    (hi : ∀ b q, i (ix3 b q 0) = BitVec.ofNat 32 (g b q).val) (b : Fin 2) (q : Fin 128) (l : Fin 256) :
    takeChunks x i (ix3 b q l) = x (ix3 b (g b q) l) := by
  have hw : ∀ b q, wrapChunk i (ix3 b q 0) = BitVec.ofNat 32 (g b q).val := by
    intro b q
    pointwise [wrapChunk]
    rw [hi, not_negative (by have := (g b q).isLt; omega)]
    rfl
  have hin : ∀ j, chunkInside (wrapChunk i) j = 1#1 := by
    intro j
    refine Host.reduce_andi_one _ _ _ _ _ rfl fun k => ?_
    idx_vars k
    obtain rfl : k2 = 0 := Subsingleton.elim _ _
    pointwise
    rw [hw, at_least_zero (by have := (g k0 k1).isLt; omega), at_most (n := 16383) (by norm_num) (by have := (g k0 k1).isLt; omega)]
    rfl
  unfold takeChunks
  pointwise
  rw [hin, gather_chunks _ _ _ _ _ (g b q) (hw b q)]
  rfl

/-- The chosen slots' words, all within the row. -/
theorem takeSlots_apply (x : I S2x128) (i : I S2x64) (g : Fin 2 → Fin 64 → Fin 128)
    (hi : ∀ b q, i (ix2 b q) = BitVec.ofNat 32 (g b q).val) (b : Fin 2) (q : Fin 64) :
    takeSlots x i (ix2 b q) = x (ix2 b (g b q)) := by
  have hw : ∀ b q, wrapSlot i (ix3 b q 0) = BitVec.ofNat 32 (g b q).val := by
    intro b q
    pointwise [wrapSlot]
    rw [spread_apply, hi]
    pointwise
    rw [not_negative (by have := (g b q).isLt; omega)]
    rfl
  have hin : ∀ j, slotInside (wrapSlot i) j = 1#1 := by
    intro j
    refine Host.reduce_andi_one _ _ _ _ _ rfl fun k => ?_
    idx_vars k
    obtain rfl : k2 = 0 := Subsingleton.elim _ _
    pointwise
    rw [hw, at_least_zero (by have := (g k0 k1).isLt; omega), at_most (n := 127) (by norm_num) (by have := (g k0 k1).isLt; omega)]
    rfl
  unfold takeSlots
  pointwise
  rw [hin, gather_slots _ _ _ _ (g b q) (hw b q)]
  rfl

end Cert.KernelIdeal.Takes

end
-- ==== Proof.Chosen.lean ====
/- The program's two-stage choice: the 64 values and positions it keeps are the 64 greatest of a row's 4194304 scores. -/
module

public import proofs.«01_k».proof.Proof.Select
public import proofs.«01_k».proof.Proof.Takes

@[expose] public section

noncomputable section

namespace Cert.KernelIdeal.Chosen

open Idealize.ShloMosaic Cert.KernelIdeal Cert.KernelIdeal.Gen Cert.KernelIdeal.Tail Cert.KernelIdeal.Takes
open Cert.TopPrefix Cert.Chunks Cert.Select

/-- A batch's scores in one row. -/
def row (s : S2x2048x2048.Idx → EReal) (b : Fin 2) (e : Fin 4194304) : EReal :=
  s (ix3 b ⟨e.val / 2048, by omega⟩ ⟨e.val % 2048, by omega⟩)

theorem row_at (s : S2x2048x2048.Idx → EReal) (b : Fin 2) (e : Fin 4194304) (r c : Fin 2048) (hr : r.val = e.val / 2048)
    (hc : c.val = e.val % 2048) : s (ix3 b r c) = row s b e := by
  unfold row
  congr 2 <;> exact Fin.ext (by assumption)

/-- The position of a candidate, from its chunk's number and its place in the chunk. -/
theorem flat_word (M : Fin 16384 → EReal) (p : Fin 32768) :
    IntOp.addi (IntOp.muli (BitVec.ofNat 32 (ids M ⟨p.val / 256, by omega⟩).val) 256#32) (BitVec.ofNat 32 (p.val % 256))
      = BitVec.ofNat 32 (flat M p).val := by
  show BitVec.ofNat 32 (ids M ⟨p.val / 256, by omega⟩).val * BitVec.ofNat 32 256 + BitVec.ofNat 32 (p.val % 256)
    = BitVec.ofNat 32 (256 * (ids M ⟨p.val / 256, by omega⟩).val + p.val % 256)
  rw [BitVec.ofNat_add, BitVec.ofNat_mul, BitVec.mul_comm]

/-- The greatest score of each chunk of 256. -/
def chunkMax (v : Fin 4194304 → EReal) (g : Fin 16384) : EReal :=
  Finset.univ.sup fun l : Fin 256 => v ⟨256 * g.val + l.val, by omega⟩

theorem le_chunkMax (v : Fin 4194304 → EReal) (e : Fin 4194304) : v e ≤ chunkMax v ⟨e.val / 256, by omega⟩ := by
  have h := Finset.le_sup (f := fun l : Fin 256 => v ⟨256 * (e.val / 256) + l.val, by omega⟩) (Finset.mem_univ ⟨e.val % 256, by omega⟩)
  have e' : (⟨256 * (e.val / 256) + e.val % 256, by omega⟩ : Fin 4194304) = e := Fin.ext (by show 256 * (e.val / 256) + e.val % 256 = e.val; omega)
  dsimp only at h
  rw [e'] at h
  exact h

theorem chunkMax_at (v : Fin 4194304 → EReal) (c : Fin 16384) :
    ∃ e : Fin 4194304, (⟨e.val / 256, by omega⟩ : Fin 16384) = c ∧ v e = chunkMax v c := by
  obtain ⟨l, _, hl⟩ := Finset.exists_mem_eq_sup (Finset.univ : Finset (Fin 256)) Finset.univ_nonempty
    fun l : Fin 256 => v ⟨256 * c.val + l.val, by omega⟩
  exact ⟨⟨256 * c.val + l.val, by omega⟩, Fin.ext (by show (256 * c.val + l.val) / 256 = c.val; omega), hl.symm⟩

/-- The program's comparison of two chosen chunk numbers. -/
theorem comparator_ofNat (a c : Fin 16384) :
    (comparator_i32_d1 (BitVec.ofNat 32 a.val) (BitVec.ofNat 32 c.val) == 1#1) = decide (a < c) := by
  have h1 := a.isLt
  have h2 := c.isLt
  show (BitVec.ofBool ((BitVec.ofNat 32 a.val).slt (BitVec.ofNat 32 c.val)) == 1#1) = decide (a.val < c.val)
  rw [Routing.slt_ofNat32 (by omega) (by omega)]
  cases decide (a.val < c.val) <;> rfl

theorem comparator_before (M : Fin 16384 → EReal) :
    (fun k k' : Fin 128 => comparator_i32_d1 (BitVec.ofNat 32 (top M k).val) (BitVec.ofNat 32 (top M k').val) == 1#1) = before M :=
  funext fun k => funext fun k' => comparator_ofNat _ _

variable (s : S2x2048x2048.Idx → EReal) (cm : S2x64x256.Idx → EReal)
variable (hcm : ∀ b g, chunkRow (F := Ideal) cm (ix2 b g) = chunkMax (row s b) g)

include hcm

/-- The chosen chunks of a batch. -/
theorem chosen_apply (b : Fin 2) (q : Fin 128) :
    chosen (F := Ideal) cm (ix2 b q) = BitVec.ofNat 32 (ids (chunkMax (row s b)) q).val := by
  have h0 : ∀ k : Fin 128, (Host.topK S2x128 1 (FloatOps.cmpfTotal .gt) (chunkRow (F := Ideal) cm) sliceFits_S2x16384_S2x128).2 (ix2 b k)
      = BitVec.ofNat 32 (top (chunkMax (row s b)) k).val := by
    intro k
    refine (topK_positions (by omega) _ _ b k).trans ?_
    simp only [hcm]
    rfl
  unfold chosen
  refine (sort_row _ _ b q).trans ?_
  simp only [h0]
  rw [comparator_before]
  rfl

/-- The candidates of a batch. -/
theorem candidates_apply (b : Fin 2) (p : Fin 32768) :
    candidates (F := Ideal) s cm (ix2 b p) = row s b (flat (chunkMax (row s b)) p) := by
  unfold candidates
  pointwise
  rw [takeChunks_apply _ _ (fun b q => ids (chunkMax (row s b)) q) (fun b q => by pointwise; exact chosen_apply s cm hcm b q)]
  pointwise
  refine row_at s b _ _ _ ?_ ?_
  · show (ids (chunkMax (row s b)) ⟨p.val / 256, by omega⟩).val / 8
      = (256 * (ids (chunkMax (row s b)) ⟨p.val / 256, by omega⟩).val + p.val % 256) / 2048
    omega
  · show (ids (chunkMax (row s b)) ⟨p.val / 256, by omega⟩).val % 8 * 256 + p.val % 256
      = (256 * (ids (chunkMax (row s b)) ⟨p.val / 256, by omega⟩).val + p.val % 256) % 2048
    omega

/-- The kept values. -/
theorem best_apply (b : Fin 2) (i : Fin 64) :
    best (F := Ideal) s cm (ix2 b i) = row s b (sortedFrom (ahead (row s b)) (i.castLE (by omega))) := by
  unfold best
  refine (topK_values (by omega) _ _ b i).trans ?_
  simp only [candidates_apply s cm hcm]
  rw [first_candidates (row s b) (chunkMax (row s b)) (le_chunkMax _) (chunkMax_at _)]

theorem bestSlot_apply (b : Fin 2) (i : Fin 64) : bestSlot (F := Ideal) s cm (ix2 b i)
    = BitVec.ofNat 32 (sortedFrom (ahead fun p => row s b (flat (chunkMax (row s b)) p)) (i.castLE (by omega : 64 ≤ 32768))).val := by
  unfold bestSlot
  refine (topK_positions (by omega) _ _ b i).trans ?_
  simp only [candidates_apply s cm hcm]

/-- The kept positions. -/
theorem bestFlat_apply (b : Fin 2) (i : Fin 64) :
    bestFlat (F := Ideal) s cm (ix2 b i) = BitVec.ofNat 32 (sortedFrom (ahead (row s b)) (i.castLE (by omega : 64 ≤ 4194304))).val := by
  have hslot := fun b i => bestSlot_apply s cm hcm b i
  have hdiv : ∀ (b : Fin 2) (i : Fin 64), floorDiv (bestSlot (F := Ideal) s cm) (constantI S_ 32 256#32) (ix2 b i)
      = BitVec.ofNat 32 ((sortedFrom (ahead fun p => row s b (flat (chunkMax (row s b)) p)) (i.castLE (by omega : 64 ≤ 32768))).val / 256) :=
    fun b i => floorDiv_apply _ _ _ (hslot b i) rfl (by omega) (by omega) (by omega)
  unfold bestFlat
  pointwise
  rw [takeSlots_apply _ _ (fun b i => ⟨(sortedFrom (ahead fun p => row s b (flat (chunkMax (row s b)) p)) (i.castLE (by omega : 64 ≤ 32768))).val / 256, by omega⟩) hdiv,
    floorRem_apply _ _ _ (hslot b i) rfl (by omega) (by omega) (by omega), chosen_apply s cm hcm,
    ← first_candidates (row s b) (chunkMax (row s b)) (le_chunkMax _) (chunkMax_at _) i, spread_apply]
  exact flat_word _ _

end Cert.KernelIdeal.Chosen

end
-- ==== Proof.Blocks.lean ====
/- What one grid point leaves in the two output blocks and in the carried scratch, as functions of its input blocks. -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Blocks

open Idealize.ShloMosaic Idealize.ShloMosaic.TcCoe Idealize.ShloMosaic.Tactic
open Cert.KernelIdeal Cert.KernelIdeal.Gen

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid0.Coords) (a2 : Memref sig .tc .vmem S1x256x1024 .f32) (h2 : a2.IsWhole)
  (a3 : Memref sig .tc .vmem S1x2048x1024 .f32) (h3 : a3.IsWhole) (a4 : Memref sig .tc .vmem S512x1024 .f32) (h4 : a4.IsWhole)
  (a5 : Memref sig .tc .vmem S512 .f32) (h5 : a5.IsWhole) (a6 : Memref sig .tc .vmem S512x1024 .f32) (h6 : a6.IsWhole)
  (a7 : Memref sig .tc .vmem S512 .f32) (h7 : a7.IsWhole) (a8 : Memref sig .tc .vmem S1x256x2048 .f32) (h8 : a8.IsWhole)
  (a9 : Memref sig .tc .vmem S1x8x256 .f32) (h9 : a9.IsWhole) (a10 : Memref sig .tc .vmem S2048x512 .f32) (h10 : a10.IsWhole)
  (x0 : Vec F S1x256x1024 .f32) (x1 : Vec F S1x2048x1024 .f32) (x2 : Vec F S512x1024 .f32) (x3 : Vec F S512 .f32)
  (x4 : Vec F S512x1024 .f32) (x5 : Vec F S512 .f32) (xs : Vec F S2048x512 .f32)

/-- A first point leaves the projected keys in the scratch. -/
theorem keys_A (hc : cond0_0 i) :
    sout0_A_0 c i a2 h2 a3 h3 a4 h4 a5 h5 a6 h6 a7 h7 a8 h8 a9 h9 a10 h10 hc x0 x1 x2 x3 x4 x5 = k0_pay2 x1 x4 x5 := by
  unfold sout0_A_0
  rw [View.read_writes_eq_canon _ _ _ (scover0_A_0 c i a2 h2 a3 h3 a4 h4 a5 h5 a6 h6 a7 h7 a8 h8 a9 h9 a10 h10 hc x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread,
    h7.read_unread, View.ld_unit_zero (S := S1x2048x1024) hz3, View.ld_unit_zero (S := S512x1024) hz2, View.ld_unit_zero (S := S512) hz1]

/-- A first point's block of scores, over the keys it has just projected. -/
theorem scores_A (hc : cond0_0 i) :
    out0_A_6 c i a2 h2 a3 h3 a4 h4 a5 h5 a6 h6 a7 h7 a8 h8 a9 h9 a10 h10 hc x0 x1 x2 x3 x4 x5
      = k0_pay4 i x0 x2 x3 (k0_pay2 x1 x4 x5) := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread,
    h7.read_unread, View.ld_unit_zero (S := S1x2048x1024) hz3, View.ld_unit_zero (S := S1x256x1024) hz3,
    View.ld_unit_zero (S := S512x1024) hz2, View.ld_unit_zero (S := S512) hz1, View.readCov_unit_zero (S := S2048x512) _ hz2]

/-- A later point's block of scores, over the keys the scratch carries. -/
theorem scores_B (hc : ¬cond0_0 i) :
    out0_B_6 c i a2 h2 a3 h3 a4 h4 a5 h5 a6 h6 a7 h7 a8 h8 a9 h9 a10 h10 hc x0 x1 x2 x3 x4 x5 xs
      = k0_pay4 i x0 x2 x3 xs := by
  unfold out0_B_6
  rw [View.read_writes_eq_canon _ _ _ (cover0_B_6 c i a2 h2 a3 h3 a4 h4 a5 h5 a6 h6 a7 h7 a8 h8 a9 h9 a10 h10 hc x0 x1 x2 x3 x4 x5 xs)]
  unfold kernelRun0_B
  dsimp only
  sl_unfold_words
  rw [View.canon_unit_zero hz3]
  simp only [View.readAt_eq_ld, h2.read_unread, h3.read_unread, h4.read_unread, h5.read_unread, h6.read_unread,
    h7.read_unread, h10.read_unread, View.ld_unit_zero (S := S2048x512) hz2, View.ld_unit_zero (S := S1x256x1024) hz3,
    View.ld_unit_zero (S := S512x1024) hz2, View.ld_unit_zero (S := S512) hz1]

/-- The greatest score of each of the eight stretches of 256 columns, for each of a block's 256 rows. -/
def stretchMax (s : FVec F S256x2048 .f32) (u : Fin 8) (r : S256.Idx) : F .f32 :=
  multiReduction .maximumf [1] S256 (fun y : S256x256.Idx => s (ix2 (y 0)
    ⟨256 * u.val + (y 1).val, by have := u.isLt; have h : (y 1).val < 256 := (y 1).isLt; omega⟩)) 0xFF800000#32 reduces_S256x256_S256 (.inl rfl) rfl r

/-- The block of stretch maxima. -/
def maxBlock (s : FVec F S256x2048 .f32) : Vec F S1x8x256 .f32 := fun y => stretchMax s (y 1) (ix1 (y 2))

/-- One stored row: the maxima of one stretch, with two leading unit axes. -/
theorem stretch_row (s : FVec F S256x2048 .f32) (o : Nat) (u : Fin 8) (ho : o = 256 * u.val) (hs : S256x2048.Slices ![0, o] S256x256)
    (x : S1x1x256.Idx) :
    shapeCast S1x1x256 (multiReduction .maximumf [1] S256 (extractStridedSlice S256x256 ![0, o] s hs) 0xFF800000#32
      reduces_S256x256_S256 (.inl rfl) rfl) shapeCasts_S256_S1x1x256 x = stretchMax s u (ix1 (x 2)) := by
  have hx : Shape.reshapeEquiv shapeCasts_S256_S1x1x256 x = ix1 (x 2) := by
    idx_vars x
    pointwise
  unfold shapeCast stretchMax
  rw [hx]
  congr 1
  funext y
  unfold extractStridedSlice
  congr 1
  funext a
  apply Fin.ext
  match a with
  | ⟨0, _⟩ => show 0 + (y 0).val = (y 0).val; omega
  | ⟨1, _⟩ => show o + (y 1).val = 256 * u.val + (y 1).val; omega

/-- The block of maxima at a row's rectangle is that row's maxima. -/
theorem maxBlock_emb (s : FVec F S256x2048 .f32) (u : Fin 8) (inb : ∀ a, (![0, u.val, 0] : Fin 3 → Nat) a + S1x1x256.size a ≤ S1x8x256.size a)
    (x : S1x1x256.Idx) :
    maxBlock s ((Rect.unit (s := S1x8x256) ![0, u.val, 0] S1x1x256.size inb).emb x) = stretchMax s u (ix1 (x 2)) := by
  have h1 : ((Rect.unit (s := S1x8x256) ![0, u.val, 0] S1x1x256.size inb).emb x) 1 = u := by
    apply Fin.ext
    have : (x 1).val < 1 := (x 1).isLt
    show u.val + 1 * (x 1).val = u.val
    omega
  have h2 : ((Rect.unit (s := S1x8x256) ![0, u.val, 0] S1x1x256.size inb).emb x) 2 = x 2 := by
    apply Fin.ext
    show 0 + 1 * (x 2).val = (x 2).val
    omega
  unfold maxBlock
  rw [h1, h2]

/-- The eight stored rows are the rows of the block of stretch maxima. -/
theorem rows_eq (s : FVec F S256x2048 .f32) (p : View.Piece (Elt F) S1x8x256 .f32) (v : S1x1x256.Idx → F .f32) (u : Fin 8)
    (inb : ∀ a, (![0, u.val, 0] : Fin 3 → Nat) a + S1x1x256.size a ≤ S1x8x256.size a)
    (hp : p = ⟨Rect.unit (s := S1x8x256) ![0, u.val, 0] S1x1x256.size inb, v⟩) (hv : ∀ x, v x = stretchMax s u (ix1 (x 2)))
    (x : p.1.shape.Idx) : p.2 x = maxBlock s (p.1.emb x) := by
  subst hp
  exact (hv x).trans (maxBlock_emb s u inb x).symm

/-- A later point's block of maxima. -/
theorem maxima_B (hc : ¬cond0_0 i) :
    out0_B_7 c i a2 h2 a3 h3 a4 h4 a5 h5 a6 h6 a7 h7 a8 h8 a9 h9 a10 h10 hc x0 x1 x2 x3 x4 x5 xs
      = maxBlock (k0_pay3 i x0 x2 x3 xs) := by
  have hcov := cover0_B_7 c i a2 h2 a3 h3 a4 h4 a5 h5 a6 h6 a7 h7 a8 h8 a9 h9 a10 h10 hc x0 x1 x2 x3 x4 x5 xs
  unfold out0_B_7
  rw [View.read_writes_eq_canon _ _ _ hcov]
  unfold kernelRun0_B at hcov ⊢
  dsimp only at hcov ⊢
  sl_unfold_words
  funext y
  refine View.canon_apply_of_pieces _ _ ?_ y (hcov y)
  simp only [View.readAt_eq_ld, h2.read_unread, h3.read_unread, h4.read_unread, h5.read_unread, h6.read_unread,
    h7.read_unread, h10.read_unread, View.ld_unit_zero (S := S2048x512) hz2, View.ld_unit_zero (S := S1x256x1024) hz3,
    View.ld_unit_zero (S := S512x1024) hz2, View.ld_unit_zero (S := S512) hz1]
  intro p hp
  simp only [List.mem_cons, List.not_mem_nil, or_false] at hp
  rcases hp with h | h | h | h | h | h | h | h
  · exact rows_eq _ p _ 7 _ h fun x => stretch_row _ 1792 7 rfl slices_S256x2048_o0_1792_S256x256 x
  · exact rows_eq _ p _ 6 _ h fun x => stretch_row _ 1536 6 rfl slices_S256x2048_o0_1536_S256x256 x
  · exact rows_eq _ p _ 5 _ h fun x => stretch_row _ 1280 5 rfl slices_S256x2048_o0_1280_S256x256 x
  · exact rows_eq _ p _ 4 _ h fun x => stretch_row _ 1024 4 rfl slices_S256x2048_o0_1024_S256x256 x
  · exact rows_eq _ p _ 3 _ h fun x => stretch_row _ 768 3 rfl slices_S256x2048_o0_768_S256x256 x
  · exact rows_eq _ p _ 2 _ h fun x => stretch_row _ 512 2 rfl slices_S256x2048_o0_512_S256x256 x
  · exact rows_eq _ p _ 1 _ h fun x => stretch_row _ 256 1 rfl slices_S256x2048_o0_256_S256x256 x
  · exact rows_eq _ p _ 0 _ h fun x => stretch_row _ 0 0 rfl slices_S256x2048_o0_0_S256x256 x

/-- A first point's block of maxima. -/
theorem maxima_A (hc : cond0_0 i) :
    out0_A_7 c i a2 h2 a3 h3 a4 h4 a5 h5 a6 h6 a7 h7 a8 h8 a9 h9 a10 h10 hc x0 x1 x2 x3 x4 x5
      = maxBlock (k0_pay3 i x0 x2 x3 (k0_pay2 x1 x4 x5)) := by
  have hcov := cover0_A_7 c i a2 h2 a3 h3 a4 h4 a5 h5 a6 h6 a7 h7 a8 h8 a9 h9 a10 h10 hc x0 x1 x2 x3 x4 x5
  unfold out0_A_7
  rw [View.read_writes_eq_canon _ _ _ hcov]
  unfold kernelRun0_A at hcov ⊢
  dsimp only at hcov ⊢
  sl_unfold_words
  funext y
  refine View.canon_apply_of_pieces _ _ ?_ y (hcov y)
  simp only [View.readAt_eq_ld, h2.read_unread, h3.read_unread, h4.read_unread, h5.read_unread, h6.read_unread,
    h7.read_unread, View.ld_unit_zero (S := S1x2048x1024) hz3, View.ld_unit_zero (S := S1x256x1024) hz3,
    View.ld_unit_zero (S := S512x1024) hz2, View.ld_unit_zero (S := S512) hz1, View.readCov_unit_zero (S := S2048x512) _ hz2]
  intro p hp
  simp only [List.mem_cons, List.not_mem_nil, or_false] at hp
  rcases hp with h | h | h | h | h | h | h | h
  · exact rows_eq _ p _ 7 _ h fun x => stretch_row _ 1792 7 rfl slices_S256x2048_o0_1792_S256x256 x
  · exact rows_eq _ p _ 6 _ h fun x => stretch_row _ 1536 6 rfl slices_S256x2048_o0_1536_S256x256 x
  · exact rows_eq _ p _ 5 _ h fun x => stretch_row _ 1280 5 rfl slices_S256x2048_o0_1280_S256x256 x
  · exact rows_eq _ p _ 4 _ h fun x => stretch_row _ 1024 4 rfl slices_S256x2048_o0_1024_S256x256 x
  · exact rows_eq _ p _ 3 _ h fun x => stretch_row _ 768 3 rfl slices_S256x2048_o0_768_S256x256 x
  · exact rows_eq _ p _ 2 _ h fun x => stretch_row _ 512 2 rfl slices_S256x2048_o0_512_S256x256 x
  · exact rows_eq _ p _ 1 _ h fun x => stretch_row _ 256 1 rfl slices_S256x2048_o0_256_S256x256 x
  · exact rows_eq _ p _ 0 _ h fun x => stretch_row _ 0 0 rfl slices_S256x2048_o0_0_S256x256 x

end Cert.KernelIdeal.Blocks
-- ==== Proof.Payload.lean ====
/- The values a grid point computes, read element by element over the extended reals. -/
module

public import proofs.«01_k».proof.Proof.Blocks

@[expose] public section

set_option maxRecDepth 16384

noncomputable section

namespace Cert.KernelIdeal.Payload

open Idealize.ShloMosaic Idealize.ShloMosaic.TcCoe Idealize.ShloMosaic.Tactic
open Cert.KernelIdeal Cert.KernelIdeal.Gen Cert.KernelIdeal.Blocks

/-- The named scale factor is the inverse of the square root of 512. -/
theorem scale_eq : Named.named (F := Ideal) Cert.KernelIdeal.κ "rs" (φ := .f32) 0x3D3504F3#32 = (((Real.sqrt 512)⁻¹ : ℝ) : EReal) :=
  IdealRules.named_const.ideal_named_scalar _ _ _ _ rfl

/-- Minus infinity as a word. -/
theorem bot_eq : Ideal.ofBits .f32 0xFF800000#32 = (⊥ : EReal) := by
  simp [Ideal.ofBits, Ideal.ieee]

/-- The projected keys: one row of keys against one row of weights, plus the bias. -/
theorem keys_apply (x1 : Vec Ideal S1x2048x1024 .f32) (x4 : Vec Ideal S512x1024 .f32) (x5 : Vec Ideal S512 .f32) (r : Fin 2048) (d : Fin 512) :
    k0_pay2 x1 x4 x5 (ix2 r d) = (∑ k : Fin 1024, x1 (ix3 0 r k) * x4 (ix2 d k)) + x5 (ix1 d) := by
  pointwise [k0_pay2]

/-- The diagonal test of a grid point's row against a column. -/
theorem diag_eq (j : Nat) (hj : j < 8) (r : Fin 256) (c : Fin 2048) :
    IntOp.cmpi .eq (IntOp.addi (Scalar.muli (BitVec.ofNat 32 j) 256#32) (BitVec.ofNat 32 r.val)) (BitVec.ofNat 32 c.val)
      = if 256 * j + r.val = c.val then 1#1 else 0#1 := by
  have hc := c.isLt
  have hr := r.isLt
  have e : IntOp.addi (Scalar.muli (BitVec.ofNat 32 j) 256#32) (BitVec.ofNat 32 r.val) = BitVec.ofNat 32 (256 * j + r.val) := by
    apply BitVec.eq_of_toNat_eq
    simp [IntOp.addi, Scalar.muli, IntOp.muli]
    omega
  rw [e]
  have e2 : (BitVec.ofNat 32 (256 * j + r.val) = BitVec.ofNat 32 c.val) ↔ 256 * j + r.val = c.val := by
    rw [← BitVec.toNat_inj]
    simp
    omega
  by_cases h : 256 * j + r.val = c.val
  · simp [IntOp.cmpi, h]
  · have h' := fun q => h (e2.mp q)
    simp only [IntOp.cmpi, h, if_false]
    rw [beq_eq_false_iff_ne.mpr h']
    rfl

/-- The scores of a block, off and on the diagonal. -/
theorem scores_apply (i : grid0.Coords) (x0 : Vec Ideal S1x256x1024 .f32) (x2 : Vec Ideal S512x1024 .f32) (x3 : Vec Ideal S512 .f32)
    (xs : Vec Ideal S2048x512 .f32) (r : Fin 256) (c : Fin 2048) :
    k0_pay3 i x0 x2 x3 xs (ix2 r c) = if 256 * (i 1).val + r.val = c.val then (⊥ : EReal)
      else (∑ d : Fin 512, ((∑ k : Fin 1024, x0 (ix3 0 r k) * x2 (ix2 d k)) + x3 (ix1 d)) * xs (ix2 c d)) * (((Real.sqrt 512)⁻¹ : ℝ) : EReal) := by
  have hj : (i 1).val < 8 := (i 1).isLt
  pointwise [k0_pay3]
  rw [diag_eq _ hj, bot_eq, scale_eq]
  split
  · rfl
  · rfl

/-- The stored block of scores is the computed one with a leading unit axis. -/
theorem scores3_apply (i : grid0.Coords) (x0 : Vec Ideal S1x256x1024 .f32) (x2 : Vec Ideal S512x1024 .f32) (x3 : Vec Ideal S512 .f32)
    (xs : Vec Ideal S2048x512 .f32) (y : S1x256x2048.Idx) :
    k0_pay4 i x0 x2 x3 xs y = k0_pay3 i x0 x2 x3 xs (ix2 (y 1) (y 2)) := by
  idx_vars y
  pointwise [k0_pay4]

/-- A stretch's maximum is the greatest of its 256 scores. -/
theorem maxBlock_apply (s : FVec Ideal S256x2048 .f32) (u : Fin 8) (r : Fin 256) :
    stretchMax s u (ix1 r) = Finset.univ.sup fun k : Fin 256 => s (ix2 r ⟨256 * u.val + k.val, by omega⟩) := by
  unfold stretchMax
  pointwise
  rw [bot_eq]
  rfl

end Cert.KernelIdeal.Payload
-- ==== Proof.Region.lean ====
/- The two arrays the grid leaves: the masked scores, and the greatest score of each stretch of 256 columns. -/
module

public import proofs.«01_k».proof.Proof.Payload
public import Idealize.ShloMosaic.Lib.Pipeline.ValueKit

@[expose] public section

set_option maxRecDepth 16384

noncomputable section

namespace Cert.KernelIdeal.Region

open Idealize.ShloMosaic Idealize.ShloMosaic.TcCoe Idealize.ShloMosaic.Tactic
open Idealize.ShloMosaic.Pipeline (Dat)
open Cert.KernelIdeal Cert.KernelIdeal.Gen Cert.KernelIdeal.Blocks Cert.KernelIdeal.Payload

/-- A linear projection of row `r` of batch `b`, entry `d`. -/
def proj (x : S2x2048x1024.Idx → EReal) (w : S512x1024.Idx → EReal) (v : S512.Idx → EReal) (b : Fin 2) (r : Fin 2048) (d : Fin 512) : EReal :=
  (∑ k : Fin 1024, x (ix3 b r k) * w (ix2 d k)) + v (ix1 d)

/-- The scaled score of row `r` against row `c`, minus infinity on the diagonal. -/
def score (x : S2x2048x1024.Idx → EReal) (wq : S512x1024.Idx → EReal) (vq : S512.Idx → EReal) (wk : S512x1024.Idx → EReal) (vk : S512.Idx → EReal)
    (b : Fin 2) (r c : Fin 2048) : EReal :=
  if r.val = c.val then ⊥ else (∑ d : Fin 512, proj x wq vq b r d * proj x wk vk b c d) * (((Real.sqrt 512)⁻¹ : ℝ) : EReal)

variable (m : (ℓ : Loc nD τ sig) → Buf (Elt Ideal) ℓ) (c : Dev nD)

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0] := (by decide +kernel : ∀ t : Fin grid0.N, _)
theorem idx6 : ∀ t : Fin cfg0.N, win0_6.index t = ![t.val / 8, t.val % 8, 0] := (by decide +kernel : ∀ t : Fin grid0.N, _)
theorem idx7 : ∀ t : Fin cfg0.N, win0_7.index t = ![t.val / 8, t.val % 8, 0] := (by decide +kernel : ∀ t : Fin grid0.N, _)
theorem coord1 : ∀ t : Fin cfg0.N, (grid0.coords t 1).val = t.val % 8 := (by decide +kernel : ∀ t : Fin grid0.N, _)

theorem t_lt (t : Fin cfg0.N) : t.val < 16 := lt_of_lt_of_eq t.isLt (show cfg0.N = 16 from N_0)

/-- The batch a grid point works on. -/
def batch (t : Fin cfg0.N) : Fin 2 := ⟨t.val / 8, by have := t_lt t; omega⟩
/-- The row of the array under row `r` of a point's block. -/
def rowOf (t : Fin cfg0.N) (r : Fin 256) : Fin 2048 := ⟨256 * (t.val % 8) + r.val, by omega⟩

abbrev X := m ((c : Thread nD τ).loc main_arg0)
abbrev Wq := m ((c : Thread nD τ).loc main_arg2)
abbrev Vq := m ((c : Thread nD τ).loc main_arg3)
abbrev Wk := m ((c : Thread nD τ).loc main_arg4)
abbrev Vk := m ((c : Thread nD τ).loc main_arg5)

/-- The block of query rows. -/
theorem blk0 (t : Fin cfg0.N) (r : Fin 256) (k : Fin 1024) :
    (iblk m c 0 t : Vec Ideal S1x256x1024 .f32) (ix3 0 r k) = X m c (ix3 (batch t) (rowOf t r) k) := by
  blk_simp [iblk]
  show X m c _ = X m c _
  congr 1
  blk_ext [idx0, batch, rowOf]

/-- The block of key rows: a whole batch. -/
theorem blk1 (t : Fin cfg0.N) (r : Fin 2048) (k : Fin 1024) :
    (iblk m c 1 t : Vec Ideal S1x2048x1024 .f32) (ix3 0 r k) = X m c (ix3 (batch t) r k) := by
  blk_simp [iblk]
  show X m c _ = X m c _
  congr 1
  blk_ext [idx1, batch]

theorem blk2 (t : Fin cfg0.N) (d : Fin 512) (k : Fin 1024) : (iblk m c 2 t : Vec Ideal S512x1024 .f32) (ix2 d k) = Wq m c (ix2 d k) := by
  blk_simp [iblk]
  show Wq m c _ = Wq m c _
  congr 1
  blk_ext [idx2]

theorem blk3 (t : Fin cfg0.N) (d : Fin 512) : (iblk m c 3 t : Vec Ideal S512 .f32) (ix1 d) = Vq m c (ix1 d) := by
  blk_simp [iblk]
  show Vq m c _ = Vq m c _
  congr 1
  blk_ext [idx3]

theorem blk4 (t : Fin cfg0.N) (d : Fin 512) (k : Fin 1024) : (iblk m c 4 t : Vec Ideal S512x1024 .f32) (ix2 d k) = Wk m c (ix2 d k) := by
  blk_simp [iblk]
  show Wk m c _ = Wk m c _
  congr 1
  blk_ext [idx4]

theorem blk5 (t : Fin cfg0.N) (d : Fin 512) : (iblk m c 5 t : Vec Ideal S512 .f32) (ix1 d) = Vk m c (ix1 d) := by
  blk_simp [iblk]
  show Vk m c _ = Vk m c _
  congr 1
  blk_ext [idx5]

/-- The keys a first point projects. -/
theorem keys_at (t : Fin cfg0.N) (r : Fin 2048) (d : Fin 512) :
    k0_pay2 (iblk m c 1 t : Vec Ideal S1x2048x1024 .f32) (iblk m c 4 t) (iblk m c 5 t) (ix2 r d) = proj (X m c) (Wk m c) (Vk m c) (batch t) r d := by
  rw [keys_apply]
  unfold proj
  simp only [blk1, blk4, blk5]

/-- After every point the scratch holds the projected keys of the point's batch. -/
theorem keys_eq : ∀ (n : ℕ) (h : n < cfg0.N) (r : Fin 2048) (d : Fin 512),
    (outsAt0 m c n h).2.2 (ix2 r d) = proj (X m c) (Wk m c) (Vk m c) (batch ⟨n, h⟩) r d
  | 0, h, r, d => by
    rw [show outsAt0 m c 0 h = _ from outsAt0_A m c ⟨0, h⟩ rfl]
    dsimp only
    rw [keys_A]
    exact keys_at m c ⟨0, h⟩ r d
  | n + 1, h, r, d => by
    by_cases h0 : (⟨n + 1, h⟩ : Fin cfg0.N).val % 8 = 0
    · rw [show outsAt0 m c (n + 1) h = _ from outsAt0_A m c ⟨n + 1, h⟩ h0]
      dsimp only
      rw [keys_A]
      exact keys_at m c ⟨n + 1, h⟩ r d
    · rw [show outsAt0 m c (n + 1) h = _ from outsAt0_B m c ⟨n + 1, h⟩ h0]
      refine (keys_eq n (Nat.lt_of_succ_lt h) r d).trans ?_
      have e : batch ⟨n, Nat.lt_of_succ_lt h⟩ = batch ⟨n + 1, h⟩ := by
        apply Fin.ext
        have h0' : ¬(n + 1) % 8 = 0 := h0
        show n / 8 = (n + 1) / 8
        omega
      rw [e]

/-- The block of scores a point computes over the projected keys of its batch. -/
theorem block_at (t : Fin cfg0.N) (xs : Vec Ideal S2048x512 .f32)
    (hxs : ∀ r d, xs (ix2 r d) = proj (X m c) (Wk m c) (Vk m c) (batch t) r d) (r : Fin 256) (k : Fin 2048) :
    k0_pay3 (grid0.coords t) (iblk m c 0 t : Vec Ideal S1x256x1024 .f32) (iblk m c 2 t) (iblk m c 3 t) xs (ix2 r k)
      = score (X m c) (Wq m c) (Vq m c) (Wk m c) (Vk m c) (batch t) (rowOf t r) k := by
  rw [scores_apply, coord1]
  unfold score
  show (if 256 * (t.val % 8) + r.val = k.val then _ else _) = if 256 * (t.val % 8) + r.val = k.val then _ else _
  simp only [hxs]
  unfold proj
  simp only [blk0, blk2, blk3]

/-- Every point computes its outputs from one block of scores, whose entries are the masked scores. -/
theorem point_eq (t : Fin cfg0.N) : ∃ s : FVec Ideal S256x2048 .f32,
    (∀ (r : Fin 256) (k : Fin 2048), s (ix2 r k) = score (X m c) (Wq m c) (Vq m c) (Wk m c) (Vk m c) (batch t) (rowOf t r) k)
    ∧ (∀ y : S1x256x2048.Idx, (outsAt0 m c t.val t.isLt).1 y = s (ix2 (y 1) (y 2)))
    ∧ (outsAt0 m c t.val t.isLt).2.1 = maxBlock s := by
  by_cases h0 : t.val % 8 = 0
  · refine ⟨_, block_at m c t _ (keys_at m c t), fun y => ?_, ?_⟩
    · rw [outsAt0_A m c t h0]
      dsimp only
      rw [scores_A]
      exact scores3_apply _ _ _ _ _ y
    · rw [outsAt0_A m c t h0]
      dsimp only
      rw [maxima_A]
  · have hpos : 0 < t.val := by omega
    have hlt : t.val - 1 < cfg0.N := by have := t.isLt; omega
    have hk : ∀ r d, (outsAt0 m c (t.val - 1) hlt).2.2 (ix2 r d) = proj (X m c) (Wk m c) (Vk m c) (batch t) r d := by
      intro r d
      rw [keys_eq m c (t.val - 1) hlt r d]
      have e : batch ⟨t.val - 1, hlt⟩ = batch t := by
        apply Fin.ext
        show (t.val - 1) / 8 = t.val / 8
        omega
      rw [e]
    refine ⟨_, block_at m c t _ hk, fun y => ?_, ?_⟩
    · rw [outsAt0_B m c t h0]
      dsimp only
      rw [scores_B]
      exact scores3_apply _ _ _ _ _ y
    · rw [outsAt0_B m c t h0]
      dsimp only
      rw [maxima_B]

/-- The array of masked scores. -/
def scores : S2x2048x2048.Idx → EReal := fun i => score (X m c) (Wq m c) (Vq m c) (Wk m c) (Vk m c) (i 0) (i 1) (i 2)

/-- The array of stretch maxima: row `8 * j + u`, column `r` is the greatest score of row `256 * j + r` over stretch `u`. -/
def maxima : S2x64x256.Idx → EReal := fun i => Finset.univ.sup fun k : Fin 256 =>
  scores m c (ix3 (i 0) ⟨256 * ((i 1).val / 8) + (i 2).val, by
    have h1 : (i 1).val < 64 := (i 1).isLt
    have h2 : (i 2).val < 256 := (i 2).isLt
    omega⟩ ⟨256 * ((i 1).val % 8) + k.val, by omega⟩)

/-- The first array after the grid. -/
theorem scores_final : (dats m 0 c).arrAt 6 cfg0.N = scores m c := by
  refine (dats m 0 c).arrAt_eq_of_covers 6 _ (by decide +kernel) fun t hf y => ?_
  obtain ⟨s, hs, h1, -⟩ := point_eq m c t
  blk_simp
  rw [after0_6]
  refine (h1 y).trans ((hs _ _).trans ?_)
  unfold scores
  have e0 : batch t = (((cfg0.win 6).blk t).view.emb y : S2x2048x2048.Idx) 0 := by
    apply Fin.ext
    blk_simp [idx6]
    rfl
  have e1 : rowOf t (y 1) = (((cfg0.win 6).blk t).view.emb y : S2x2048x2048.Idx) 1 := by
    apply Fin.ext
    blk_simp [idx6]
    show 256 * (t.val % 8) + (y 1).val = t.val % 8 * 256 + (y 1).val
    omega
  have e2 : y 2 = (((cfg0.win 6).blk t).view.emb y : S2x2048x2048.Idx) 2 := by
    apply Fin.ext
    blk_simp [idx6]
  rw [e0, e1, e2]

/-- A point's stretch maxima are entries of the array of maxima. -/
theorem maxima_block (t : Fin cfg0.N) (s : FVec Ideal S256x2048 .f32)
    (hs : ∀ (r : Fin 256) (k : Fin 2048), s (ix2 r k) = score (X m c) (Wq m c) (Vq m c) (Wk m c) (Vk m c) (batch t) (rowOf t r) k)
    (u : Fin 8) (r : Fin 256) (j : S2x64x256.Idx) (e0 : batch t = j 0) (e1 : (j 1).val = 8 * (t.val % 8) + u.val)
    (e2 : (j 2).val = r.val) :
    (Finset.univ.sup fun k : Fin 256 => s (ix2 r ⟨256 * u.val + k.val, by omega⟩)) = maxima m c j := by
  unfold maxima
  congr 1
  funext k
  rw [hs]
  unfold scores
  rw [e0]
  have hu := u.isLt
  have er : rowOf t r = ⟨256 * ((j 1).val / 8) + (j 2).val, by have := t_lt t; have := r.isLt; omega⟩ := by
    apply Fin.ext
    show 256 * (t.val % 8) + r.val = 256 * ((j 1).val / 8) + (j 2).val
    omega
  have ek : (⟨256 * u.val + k.val, by omega⟩ : Fin 2048) = ⟨256 * ((j 1).val % 8) + k.val, by omega⟩ := by
    apply Fin.ext
    show 256 * u.val + k.val = 256 * ((j 1).val % 8) + k.val
    omega
  rw [er, ek]
  rfl

/-- The second array after the grid. -/
theorem maxima_final : (dats m 0 c).arrAt 7 cfg0.N = maxima m c := by
  refine (dats m 0 c).arrAt_eq_of_covers 7 _ (by decide +kernel) fun t hf y => ?_
  obtain ⟨s, hs, -, h1⟩ := point_eq m c t
  have y0 : (y 0).val < 1 := (y 0).isLt
  have y1 : (y 1).val < 8 := (y 1).isLt
  have e0 : batch t = (((cfg0.win 7).blk t).view.emb y : S2x64x256.Idx) 0 := by
    apply Fin.ext
    blk_simp [idx7]
    rfl
  have e1 : ((((cfg0.win 7).blk t).view.emb y : S2x64x256.Idx) 1).val = 8 * (t.val % 8) + (y 1).val := by
    blk_simp [idx7]
    omega
  have e2 : ((((cfg0.win 7).blk t).view.emb y : S2x64x256.Idx) 2).val = (y 2).val := by
    blk_simp [idx7]
  blk_simp
  rw [after0_7, h1]
  exact (maxBlock_apply s _ _).trans (maxima_block m c t s hs (y 1) (y 2) _ e0 e1 e2)

end Cert.KernelIdeal.Region
-- ==== Proof.Kept.lean ====
/- The two-stage choice on what the region leaves: the chunk maxima are the maxima of the scores' chunks. -/
module

public import proofs.«01_k».proof.Proof.Chosen
public import proofs.«01_k».proof.Proof.Region

@[expose] public section

noncomputable section

namespace Cert.KernelIdeal.Kept

open Idealize.ShloMosaic Cert.KernelIdeal Cert.KernelIdeal.Gen Cert.KernelIdeal.Tail Cert.KernelIdeal.Region
open Cert.KernelIdeal.Chosen Cert.TopPrefix

variable (m : (ℓ : Loc nD τ sig) → Buf (Elt Ideal) ℓ) (c : Dev nD)

/-- The chunk maxima, in the order of the chunks. -/
theorem chunkRow_maxima (b : Fin 2) (g : Fin 16384) :
    chunkRow (F := Ideal) (maxima m c) (ix2 b g) = chunkMax (row (scores m c) b) g := by
  pointwise [chunkRow]
  have hg := g.isLt
  unfold chunkMax
  show (Finset.univ.sup fun k : Fin 256 => scores m c (ix3 b ⟨256 * ((g.val / 2048 * 8 + g.val % 8) / 8) + g.val / 8 % 256, by omega⟩
    ⟨256 * ((g.val / 2048 * 8 + g.val % 8) % 8) + k.val, by omega⟩)) = _
  refine congrArg _ (funext fun k => ?_)
  refine row_at (scores m c) b _ _ _ ?_ ?_
  · show 256 * ((g.val / 2048 * 8 + g.val % 8) / 8) + g.val / 8 % 256 = (256 * g.val + k.val) / 2048
    omega
  · show 256 * ((g.val / 2048 * 8 + g.val % 8) % 8) + k.val = (256 * g.val + k.val) % 2048
    omega

end Cert.KernelIdeal.Kept

end
-- ==== Proof.RefScores.lean ====
/- The reference's row of scores on a mask of ones: the same scores as the region's. -/
module

public import proofs.«01_k».proof.Proof.Gen.ReferenceIdeal.Read
public import proofs.«01_k».proof.Proof.Chosen
public import proofs.«01_k».proof.Proof.Region

@[expose] public section

noncomputable section

namespace Cert.ReferenceIdeal.Scores

open Idealize.ShloMosaic Cert.ReferenceIdeal Cert.ReferenceIdeal.Gen Cert.ReferenceIdeal.Read

variable (x0 : S2x2048x1024.Idx → EReal) (x1 : S2x2048.Idx → BitVec 1) (x2 : S512x1024.Idx → EReal) (x3 : S512.Idx → EReal)
  (x4 : S512x1024.Idx → EReal) (x5 : S512.Idx → EReal)

/-- The first projection. -/
theorem query_apply (b : Fin 2) (r : Fin 2048) (d : Fin 512) :
    val_main_v4 (F := Ideal) x0 x2 x3 (ix3 b r d) = Cert.KernelIdeal.Region.proj x0 x2 x3 b r d := by
  pointwise [val_main_v4, val_main_v1, val_main_v0, val_main_v3, val_main_v2, Cert.KernelIdeal.Region.proj]

/-- The second projection. -/
theorem key_apply (b : Fin 2) (r : Fin 2048) (d : Fin 512) :
    val_main_v9 (F := Ideal) x0 x4 x5 (ix3 b r d) = Cert.KernelIdeal.Region.proj x0 x4 x5 b r d := by
  pointwise [val_main_v9, val_main_v6, val_main_v5, val_main_v8, val_main_v7, Cert.KernelIdeal.Region.proj]

/-- The divisor. -/
theorem root_eq : Ideal.sqrt (Ideal.ofBits .f32 0x44000000#32) = ((Real.sqrt 512 : ℝ) : EReal) := by
  have : Ideal.ofBits .f32 0x44000000#32 = ((512 : ℝ) : EReal) := by
    simp [Ideal.ofBits, Ideal.ieee, -EReal.coe_mul]; norm_num
  rw [this, Ideal.sqrt_coe, if_neg (by norm_num)]

/-- The quotient is the product with the reciprocal. -/
theorem scaled (x : EReal) : Ideal.div x ((Real.sqrt 512 : ℝ) : EReal) = x * (((Real.sqrt 512)⁻¹ : ℝ) : EReal) := by
  rw [Ideal.div_coe (by positivity), one_div]

/-- The scaled products. -/
theorem scaled_apply (b : Fin 2) (r c : Fin 2048) : val_main_v13 (F := Ideal) x0 x2 x3 x4 x5 (ix3 b r c)
    = (∑ d : Fin 512, Cert.KernelIdeal.Region.proj x0 x2 x3 b r d * Cert.KernelIdeal.Region.proj x0 x4 x5 b c d)
      * (((Real.sqrt 512)⁻¹ : ℝ) : EReal) := by
  pointwise [val_main_v13, val_main_v12, val_main_v11, val_main_cst, val_main_v10]
  simp only [query_apply, key_apply]
  rw [root_eq, scaled]

/-- The mask of admissible pairs: off the diagonal. -/
theorem mask_apply (h : ∀ i, x1 i = 1#1) (b : Fin 2) (r c : Fin 2048) :
    val_main_v27 (F := Ideal) x1 (ix3 b r c) = if r.val = c.val then 0#1 else 1#1 := by
  pointwise [val_main_v27, val_main_v18, val_main_v16, val_main_v17, val_main_v14, val_main_v15, val_main_v26, val_main_v25, val_main_v24, val_main_v23,
    val_main_v22, val_main_v21, val_main_v20, val_main_v19, val_main_c]
  simp only [h]
  have hr := r.isLt
  have hc := c.isLt
  have e : IntOp.addi (BitVec.ofNat 32 r.val) 0#32 = BitVec.ofNat 32 r.val := BitVec.add_zero _
  rw [e]
  show IntOp.andi (IntOp.andi 1#1 1#1) (~~~ BitVec.ofBool (BitVec.ofNat 32 r.val == BitVec.ofNat 32 c.val)) = _
  by_cases hrc : r.val = c.val
  · rw [if_pos hrc, hrc, beq_self_eq_true]
    rfl
  · have hne : BitVec.ofNat 32 r.val ≠ BitVec.ofNat 32 c.val := by
      intro hh
      have := congrArg BitVec.toNat hh
      simp only [BitVec.toNat_ofNat] at this
      omega
    rw [if_neg hrc, beq_eq_false_iff_ne.mpr hne]
    rfl

/-- The reference's row of scores. -/
theorem row_apply (h : ∀ i, x1 i = 1#1) (b : Fin 2) (e : Fin 4194304) : val_main_v30 (F := Ideal) x0 x1 x2 x3 x4 x5 (ix2 b e)
    = Cert.KernelIdeal.Chosen.row (fun i => Cert.KernelIdeal.Region.score x0 x2 x3 x4 x5 (i 0) (i 1) (i 2)) b e := by
  pointwise [val_main_v30, val_main_v29, val_main_v28, val_main_call0_v1, val_main_call0_v0, val_main_cst_0]
  rw [mask_apply x1 h, scaled_apply]
  unfold Cert.KernelIdeal.Chosen.row Cert.KernelIdeal.Region.score
  by_cases hd : e.val / 2048 = e.val % 2048
  · rw [if_pos hd]
    show _ = if e.val / 2048 = e.val % 2048 then _ else _
    rw [if_pos hd]
    exact Cert.KernelIdeal.Payload.bot_eq
  · rw [if_neg hd]
    show _ = if e.val / 2048 = e.val % 2048 then _ else _
    rw [if_neg hd]
    rfl

end Cert.ReferenceIdeal.Scores

end
-- ==== Proof.Counts.lean ====
/- The third result on a mask of ones: the number of ordered pairs of different positions, counted two ways. -/
module

public import proofs.«01_k».proof.Proof.RefScores
public import Idealize.ShloMosaic.Lib.StableHlo.Predicate

@[expose] public section

noncomputable section

namespace Cert.Counts

open Idealize.ShloMosaic

/-- The row's count of set bits is its length. -/
theorem rowCount_apply (x : Cert.KernelIdeal.S2x2048.Idx → BitVec 1) (h : ∀ i, x i = 1#1) (j : Cert.KernelIdeal.S2.Idx) :
    Cert.KernelIdeal.Tail.rowCount x j = 2048#32 := by
  apply BitVec.eq_of_toNat_eq
  unfold Cert.KernelIdeal.Tail.rowCount
  refine (StableHlo.Predicate.toNat_reduce_count_cols (by norm_num) x _ _ _ j).trans ?_
  simp only [h, Finset.filter_true, Finset.card_univ, Fintype.card_fin]
  rfl

/-- The positions on the diagonal. -/
theorem card_diagonal : (Finset.univ.filter fun e : Fin 4194304 => e.val / 2048 = e.val % 2048).card = 2048 := by
  have e : (Finset.univ.filter fun e : Fin 4194304 => e.val / 2048 = e.val % 2048)
      = Finset.univ.map (⟨fun r : Fin 2048 => (⟨2049 * r.val, by omega⟩ : Fin 4194304), fun r r' h => by
          have := congrArg (fun z : Fin 4194304 => z.val) h
          dsimp only at this
          exact Fin.ext (by omega)⟩ : Fin 2048 ↪ Fin 4194304) := by
    ext e
    simp only [Finset.mem_filter, Finset.mem_univ, true_and, Finset.mem_map, Function.Embedding.coeFn_mk]
    constructor
    · intro h
      exact ⟨⟨e.val / 2048, by omega⟩, Fin.ext (by show 2049 * (e.val / 2048) = e.val; omega)⟩
    · rintro ⟨r, rfl⟩
      show 2049 * r.val / 2048 = 2049 * r.val % 2048
      omega
  rw [e, Finset.card_map, Finset.card_univ, Fintype.card_fin]

/-- The number of elements that do not have a property. -/
theorem card_not {n k : Nat} (p : Fin n → Prop) [DecidablePred p] (h : (Finset.univ.filter p).card = k) :
    (Finset.univ.filter fun e => ¬ p e).card = n - k := by
  have h' := Finset.card_filter_add_card_filter_not (s := (Finset.univ : Finset (Fin n))) p
  rw [h, Finset.card_univ, Fintype.card_fin] at h'
  omega

/-- The positions off the diagonal. -/
theorem card_off : (Finset.univ.filter fun e : Fin 4194304 => ¬ e.val / 2048 = e.val % 2048).card = 4194304 - 2048 :=
  card_not _ card_diagonal

/-- The reference's mask bit of a position. -/
theorem bit_apply (x : Cert.ReferenceIdeal.S2x2048.Idx → BitVec 1) (h : ∀ i, x i = 1#1) (b : Fin 2) (q : Fin 4194304) :
    (Cert.ReferenceIdeal.Read.val_main_v29 (F := Ideal) x (ix2 b q) = 1#1) ↔ ¬ q.val / 2048 = q.val % 2048 := by
  pointwise [Cert.ReferenceIdeal.Read.val_main_v29]
  rw [Cert.ReferenceIdeal.Scores.mask_apply x h]
  show (if q.val / 2048 = q.val % 2048 then 0#1 else 1#1) = 1#1 ↔ _
  by_cases hq : q.val / 2048 = q.val % 2048
  · simp [hq]
  · simp [hq]

/-- The reference's count. -/
theorem reference_count (x : Cert.ReferenceIdeal.S2x2048.Idx → BitVec 1) (h : ∀ i, x i = 1#1) (j : Cert.ReferenceIdeal.S2.Idx) :
    Host.reduce IntOp.addi (extui 32 (Cert.ReferenceIdeal.Read.val_main_v29 (F := Ideal) x) Cert.ReferenceIdeal.Gen.natLt_1_32)
      (constantI Cert.ReferenceIdeal.S_ 32 0#32) Cert.ReferenceIdeal.Gen.reducesTo_S2x4194304_S2_d1 Cert.ReferenceIdeal.Gen.h_S_ j = 4192256#32 := by
  apply BitVec.eq_of_toNat_eq
  refine (StableHlo.Predicate.toNat_reduce_count_cols (by norm_num) _ _ _ _ j).trans ?_
  have hm : ∀ q : Fin 4194304, (Cert.ReferenceIdeal.Read.val_main_v29 (F := Ideal) x (StableHlo.Predicate.ij (j 0) q) = 1#1)
      ↔ ¬ q.val / 2048 = q.val % 2048 := by
    intro q
    have e : (StableHlo.Predicate.ij (j 0) q : Cert.ReferenceIdeal.S2x4194304.Idx) = ix2 (j 0) q := by
      funext a
      match a with
      | ⟨0, _⟩ => rfl
      | ⟨1, _⟩ => rfl
    rw [e]
    exact bit_apply x h (j 0) q
  simp only [hm]
  rw [card_off]
  rfl

/-- The two counts agree. -/
theorem counts_eq (x : Cert.KernelIdeal.S2x2048.Idx → BitVec 1) (h : ∀ i, x i = 1#1) :
    Cert.KernelIdeal.Tail.pairCount x
      = Host.reduce IntOp.addi (extui 32 (Cert.ReferenceIdeal.Read.val_main_v29 (F := Ideal) x) Cert.ReferenceIdeal.Gen.natLt_1_32)
        (constantI Cert.ReferenceIdeal.S_ 32 0#32) Cert.ReferenceIdeal.Gen.reducesTo_S2x4194304_S2_d1 Cert.ReferenceIdeal.Gen.h_S_ := by
  funext j
  rw [reference_count x h j]
  unfold Cert.KernelIdeal.Tail.pairCount
  pointwise
  rw [rowCount_apply x h]
  rfl

end Cert.Counts

end
-- ==== Proof.Results.lean ====
/- The reference's results on a mask of ones, in the words of the lines after the region. -/
module

public import proofs.«01_k».proof.Proof.Kept
public import proofs.«01_k».proof.Proof.RefScores
public import proofs.«01_k».proof.Proof.Counts

@[expose] public section

set_option maxRecDepth 8192

noncomputable section

namespace Cert.Results

open Idealize.ShloMosaic Cert.KernelIdeal.Tail Cert.KernelIdeal.Region Cert.KernelIdeal.Chosen Cert.KernelIdeal.Kept
open Cert.ReferenceIdeal.Read Cert.ReferenceIdeal.Scores Cert.Select Cert.TopPrefix

section Words

variable {F : FTy → Type} [FloatOps F] [Named F]
variable (x0 : Cert.ReferenceIdeal.S2x2048x1024.Idx → F .f32) (x1 : Cert.ReferenceIdeal.S2x2048.Idx → BitVec 1)
  (x2 : Cert.ReferenceIdeal.S512x1024.Idx → F .f32) (x3 : Cert.ReferenceIdeal.S512.Idx → F .f32)
  (x4 : Cert.ReferenceIdeal.S512x1024.Idx → F .f32) (x5 : Cert.ReferenceIdeal.S512.Idx → F .f32)

/-- The reference's weights, from its 64 greatest scores. -/
theorem weights_words : val_main_v41 (F := F) x0 x1 x2 x3 x4 x5 = softmax (val_main_values (F := F) x0 x1 x2 x3 x4 x5) := rfl

/-- The reference's pairs, from the positions of its 64 greatest scores. -/
theorem pairs_words : val_main_v46 (F := F) x0 x1 x2 x3 x4 x5 = rowCol (val_main_indices (F := F) x0 x1 x2 x3 x4 x5) := rfl

end Words

variable (m : (ℓ : Loc Cert.KernelIdeal.nD Cert.KernelIdeal.τ Cert.KernelIdeal.sig) → Buf (Elt Ideal) ℓ)
  (c : Dev Cert.KernelIdeal.nD) (x1 : Cert.ReferenceIdeal.S2x2048.Idx → BitVec 1)

/-- A batch's row of the reference's scores. -/
theorem row_eq (h : ∀ i, x1 i = 1#1) (b : Fin 2) :
    (fun e : Fin 4194304 => (val_main_v30 (F := Ideal) (X m c) x1 (Wq m c) (Vq m c) (Wk m c) (Vk m c) (ix2 b e) : EReal))
      = row (scores m c) b :=
  funext fun e => row_apply (X m c) x1 (Wq m c) (Vq m c) (Wk m c) (Vk m c) h b e

theorem value_at (h : ∀ i, x1 i = 1#1) (b : Fin 2) (i : Fin 64) :
    val_main_values (F := Ideal) (X m c) x1 (Wq m c) (Vq m c) (Wk m c) (Vk m c) (ix2 b i)
      = best (F := Ideal) (scores m c) (maxima m c) (ix2 b i) := by
  rw [best_apply _ _ (chunkRow_maxima m c)]
  refine (topK_values (by norm_num) _ _ b i).trans ?_
  rw [row_eq m c x1 h b]
  exact congrFun (row_eq m c x1 h b) _

theorem position_at (h : ∀ i, x1 i = 1#1) (b : Fin 2) (i : Fin 64) :
    val_main_indices (F := Ideal) (X m c) x1 (Wq m c) (Vq m c) (Wk m c) (Vk m c) (ix2 b i)
      = bestFlat (F := Ideal) (scores m c) (maxima m c) (ix2 b i) := by
  rw [bestFlat_apply _ _ (chunkRow_maxima m c)]
  refine (topK_positions (by norm_num) _ _ b i).trans ?_
  rw [row_eq m c x1 h b]

/-- The 64 greatest scores. -/
theorem values_eq (h : ∀ i, x1 i = 1#1) :
    val_main_values (F := Ideal) (X m c) x1 (Wq m c) (Vq m c) (Wk m c) (Vk m c)
      = best (F := Ideal) (scores m c) (maxima m c) := by
  funext j
  idx_vars j
  exact value_at m c x1 h _ _

/-- Their positions. -/
theorem indices_eq (h : ∀ i, x1 i = 1#1) :
    val_main_indices (F := Ideal) (X m c) x1 (Wq m c) (Vq m c) (Wk m c) (Vk m c)
      = bestFlat (F := Ideal) (scores m c) (maxima m c) := by
  funext j
  idx_vars j
  exact position_at m c x1 h _ _

/-- The weights. -/
theorem weights_eq (h : ∀ i, x1 i = 1#1) :
    val_main_v41 (F := Ideal) (X m c) x1 (Wq m c) (Vq m c) (Wk m c) (Vk m c)
      = softmax (best (F := Ideal) (scores m c) (maxima m c)) := by
  rw [weights_words, values_eq m c x1 h]

/-- The pairs. -/
theorem pairs_eq (h : ∀ i, x1 i = 1#1) :
    val_main_v46 (F := Ideal) (X m c) x1 (Wq m c) (Vq m c) (Wk m c) (Vk m c)
      = rowCol (bestFlat (F := Ideal) (scores m c) (maxima m c)) := by
  rw [pairs_words, indices_eq m c x1 h]

end Cert.Results

end
-- ==== Proof.Ends.lean ====
/- What the program's run leaves in its three results. -/
module

public import proofs.«01_k».proof.Proof.Region
public import proofs.«01_k».proof.Proof.Tail

@[expose] public section

set_option maxRecDepth 8192

noncomputable section

namespace Cert.KernelIdeal.Ends

open Idealize.ShloMosaic Idealize.ShloMosaic.TcCoe Idealize.ShloMosaic.StableHlo Idealize.SL.Sem
open Cert.KernelIdeal Cert.KernelIdeal.Gen Cert.KernelIdeal.Tail Cert.KernelIdeal.Region

variable (m : (ℓ : Loc nD τ sig) → Buf (Elt Ideal) ℓ)

/-- The contents of the arrays when the region ends. -/
def left (c : Dev nD) : Valuation τ sig (Elt Ideal) :=
  Pipeline.withArrays (cfgs 0).spec c (V0 m c) fun w => (dats m 0 c).arrAt w (cfgs 0).N

theorem left_scores (c : Dev nD) : left m c (Proc.devRef .tc main_v0_0) = scores m c :=
  (Pipeline.Dat.withArrays_arrAt (dats m 0 c) sharedIn0 (V0 m c) (A_eq m c) 6).trans (scores_final m c)

theorem left_maxima (c : Dev nD) : left m c (Proc.devRef .tc main_v0_1) = maxima m c :=
  (Pipeline.Dat.withArrays_arrAt (dats m 0 c) sharedIn0 (V0 m c) (A_eq m c) 7).trans (maxima_final m c)

theorem left_mask (c : Dev nD) : left m c (Proc.devRef .tc main_arg1) = m ((c : Thread nD τ).loc main_arg1) :=
  (Pipeline.withArrays_of_ne _ c (V0 m c) _ main_arg1 (by decide)).trans (V_main_arg1 m c)

/-- The contents of a buffer at the end: the tail's, from the region's. -/
theorem tail_eq (c : Dev nD) (b : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13] c b
      = after tailOps (left m c) (Proc.devRef .tc b) := rfl

/-- The run: the three results, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = rowCol (bestFlat (F := Ideal) (scores m c) (maxima m c))
      ∧ r.2.mem ((c.tc : Thread nD τ).loc main_v25) = softmax (best (F := Ideal) (scores m c) (maxima m c))
      ∧ r.2.mem ((c.tc : Thread nD τ).loc main_v34) = pairCount (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun r h c => ?_) (θ_run_and (run_main m ρ) (unchanged m ρ))
  have e := fun b hb => ((h.1 c).2 b hb).trans (tail_eq m c b)
  refine ⟨?_, ?_, ?_, h.2 c⟩
  · refine (e main_v30 (Pipeline.mem_restRefs_of main_v30 (by decide) (by decide))).trans ?_
    rw [tail_pairs, left_scores, left_maxima]
  · refine (e main_v25 (Pipeline.mem_restRefs_of main_v25 (by decide) (by decide))).trans ?_
    rw [tail_weights, left_scores, left_maxima]
  · refine (e main_v34 (Pipeline.mem_restRefs_of main_v34 (by decide) (by decide))).trans ?_
    rw [tail_counts, left_mask]

end Cert.KernelIdeal.Ends

end
-- ==== Proof.lean ====
/- The certificate, assembled: the frames, the named constant, and the equality of the three results over the extended
   reals on a mask of ones. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_no_padding
public import proofs.«01_k».proof.Proof.Results
public import proofs.«01_k».proof.Proof.Ends
public import Idealize.ShloMosaic.Lib.ReduceAll
public import Idealize.ShloMosaic.Adequacy
public import Idealize.ShloMosaic.Init

@[expose] public section

noncomputable section

namespace Cert.Proof

open Idealize.ShloMosaic Idealize.SL.Sem

/-- The precondition, decoded: every bit of the mask is set. -/
theorem mask_set (x0 : (⟨3, ![2, 2048, 1024]⟩ : Shape).Idx → EReal) (x1 : (⟨2, ![2, 2048]⟩ : Shape).Idx → BitVec 1)
    (x2 : (⟨2, ![512, 1024]⟩ : Shape).Idx → EReal) (x3 : (⟨1, ![512]⟩ : Shape).Idx → EReal)
    (x4 : (⟨2, ![512, 1024]⟩ : Shape).Idx → EReal) (x5 : (⟨1, ![512]⟩ : Shape).Idx → EReal)
    (h : Cert.Pre_no_padding.fn (F := Ideal) x0 x1 x2 x3 x4 x5 = fun _ => 1#1) (i : (⟨2, ![2, 2048]⟩ : Shape).Idx) :
    x1 i = 1#1 :=
  haveI : Subsingleton Cert.Pre_no_padding.S_.Idx := ⟨fun a b => funext fun k => k.elim0⟩
  Host.reduce_andi_all x1 _ _ _ (fun k => k.elim0) (congrFun h _) i

/-- The reference terminates, its arguments unchanged and, having no semaphore, every counter at zero. -/
theorem reference_frame : Cert.quiescent_ReferenceIdeal := fun m g _ =>
  (θ_run (Cert.ReferenceIdeal.defs (F := Ideal)) _ _).mono
    (fun r h => ⟨fun c => (h c).2.2.2, sem_eq_zero_of_no_sems (by decide) r.2⟩) (Cert.ReferenceIdeal.Value.run (F := Ideal) m g)

/-- Over the extended reals, on a mask of ones, the two programs end with equal results. -/
theorem algebraic : Cert.algebraic_KernelIdeal_ReferenceIdeal_pre_no_padding := by
  intro m g m' g' pre agree
  refine ⟨_, _, _, Cert.KernelIdeal.Ends.run m g, ?_⟩
  refine (θ_run (Cert.ReferenceIdeal.defs (F := Ideal)) _ _).mono (fun r h c => ?_) (Cert.ReferenceIdeal.Value.run (F := Ideal) m' g')
  obtain ⟨h46, h41, h48, rest⟩ := h c
  obtain ⟨a0, a1, a2, a3, a4, a5⟩ := agree c
  have mask := mask_set _ _ _ _ _ _ (pre c)
  refine ⟨h46.trans ?_, h41.trans ?_, h48.trans ?_, rest⟩
  · rw [Cert.ReferenceIdeal.Read.val_main_v46_eq, a0, a1, a2, a3, a4, a5]
    exact Cert.Results.pairs_eq m c _ mask
  · rw [Cert.ReferenceIdeal.Read.val_main_v41_eq, a0, a1, a2, a3, a4, a5]
    exact Cert.Results.weights_eq m c _ mask
  · rw [a1]
    exact (Cert.Counts.counts_eq _ mask).symm

theorem claim : Cert.Claim := ⟨Cert.Kernel.Gen.facts, Cert.KernelIdeal.Gen.facts, Cert.ReferenceIdeal.Gen.facts, Cert.Pre_no_padding.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "rs" .f32 0x3D3504F3#32 (((Real.sqrt 512)⁻¹ : ℝ) : EReal) rfl,
  algebraic⟩

end Cert.Proof

end
